-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S16 : Shape := ⟨1, ![16]⟩
abbrev S6 : Shape := ⟨1, ![6]⟩
abbrev S5 : Shape := ⟨1, ![5]⟩
abbrev S_ : Shape := ⟨0, ![]⟩
abbrev S1 : Shape := ⟨1, ![1]⟩
abbrev S64x1024 : Shape := ⟨2, ![64, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v32 : BitVec 32 := Scalar.muli v2 c4_i32_20
  let v33 : BitVec 32 := Scalar.addi c0_i32 v32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_21 : BitVec 32 := 2#32
  let v34 : BitVec 32 := Scalar.muli v9 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev2 (d0 : Dev nD) : Nat :=
  let c0_i32_25 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_24 : BitVec 32 := 4#32
  let v38 : BitVec 32 := Scalar.muli v10 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v42 : BitVec 32 := Scalar.muli v8 c1_i32_27
  let v43 : BitVec 32 := Scalar.addi v41 v42
  v43.toNat
def k0_dev3 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v44 : BitVec 32 := Scalar.muli v2 c4_i32_29
  let v45 : BitVec 32 := Scalar.addi c0_i32_30 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v46 : BitVec 32 := Scalar.muli v5 c2_i32_31
  let v47 : BitVec 32 := Scalar.addi v45 v46
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_32 : BitVec 32 := 1#32
  let v48 : BitVec 32 := Scalar.muli v11 c1_i32_32
  let v49 : BitVec 32 := Scalar.addi v47 v48
  v49.toNat
def k0_off1 (d0 : Dev nD) (c0_i32_34 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v28 : BitVec 32 := Scalar.muli v5 c4096_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v51 : BitVec 32 := Scalar.addi v28 v14
  let v52 : BitVec 32 := Scalar.addi v51 c0_i32_34
  let c0_i32_41 : BitVec 32 := 0#32
  ![v52.toNat, 0]
def k0_off2 (d0 : Dev nD) (c0_i32_33 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v50 : BitVec 32 := Scalar.addi v14 c0_i32_33
  let c0_i32_42 : BitVec 32 := 0#32
  ![v50.toNat, 0]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v53 : BitVec 32 := Scalar.muli v2 c4_i32_37
  let v54 : BitVec 32 := Scalar.addi c0_i32_38 v53
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_39 : BitVec 32 := 2#32
  let v55 : BitVec 32 := Scalar.muli v9 c2_i32_39
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v57 : BitVec 32 := Scalar.muli v8 c1_i32_40
  let v58 : BitVec 32 := Scalar.addi v56 v57
  v58.toNat
def k0_dev5 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v68 : BitVec 32 := Scalar.muli v2 c4_i32_46
  let v69 : BitVec 32 := Scalar.addi c0_i32_47 v68
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_48 : BitVec 32 := 2#32
  let v70 : BitVec 32 := Scalar.muli v9 c2_i32_48
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v72 : BitVec 32 := Scalar.muli v8 c1_i32_49
  let v73 : BitVec 32 := Scalar.addi v71 v72
  v73.toNat
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v83 : BitVec 32 := Scalar.muli v2 c4_i32_55
  let v84 : BitVec 32 := Scalar.addi c0_i32_56 v83
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_57 : BitVec 32 := 2#32
  let v85 : BitVec 32 := Scalar.muli v9 c2_i32_57
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v87 : BitVec 32 := Scalar.muli v8 c1_i32_58
  let v88 : BitVec 32 := Scalar.addi v86 v87
  v88.toNat
def k0_dev7 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v98 : BitVec 32 := Scalar.muli v2 c4_i32_64
  let v99 : BitVec 32 := Scalar.addi c0_i32_65 v98
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_66 : BitVec 32 := 2#32
  let v100 : BitVec 32 := Scalar.muli v9 c2_i32_66
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v102 : BitVec 32 := Scalar.muli v8 c1_i32_67
  let v103 : BitVec 32 := Scalar.addi v101 v102
  v103.toNat
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v113 : BitVec 32 := Scalar.muli v2 c4_i32_73
  let v114 : BitVec 32 := Scalar.addi c0_i32_74 v113
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_75 : BitVec 32 := 2#32
  let v115 : BitVec 32 := Scalar.muli v9 c2_i32_75
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v117 : BitVec 32 := Scalar.muli v8 c1_i32_76
  let v118 : BitVec 32 := Scalar.addi v116 v117
  v118.toNat
def k0_dev9 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v128 : BitVec 32 := Scalar.muli v2 c4_i32_81
  let v129 : BitVec 32 := Scalar.addi c0_i32_82 v128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_83 : BitVec 32 := 2#32
  let v130 : BitVec 32 := Scalar.muli v9 c2_i32_83
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v132 : BitVec 32 := Scalar.muli v8 c1_i32_84
  let v133 : BitVec 32 := Scalar.addi v131 v132
  v133.toNat
def k0_dev10 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v143 : BitVec 32 := Scalar.muli v2 c4_i32_89
  let v144 : BitVec 32 := Scalar.addi c0_i32_90 v143
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_91 : BitVec 32 := 2#32
  let v145 : BitVec 32 := Scalar.muli v9 c2_i32_91
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v147 : BitVec 32 := Scalar.muli v8 c1_i32_92
  let v148 : BitVec 32 := Scalar.addi v146 v147
  v148.toNat
def k0_dev11 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v158 : BitVec 32 := Scalar.muli v2 c4_i32_97
  let v159 : BitVec 32 := Scalar.addi c0_i32_98 v158
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_99 : BitVec 32 := 2#32
  let v160 : BitVec 32 := Scalar.muli v9 c2_i32_99
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v162 : BitVec 32 := Scalar.muli v8 c1_i32_100
  let v163 : BitVec 32 := Scalar.addi v161 v162
  v163.toNat
def k0_dev12 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v173 : BitVec 32 := Scalar.muli v2 c4_i32_105
  let v174 : BitVec 32 := Scalar.addi c0_i32_106 v173
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_107 : BitVec 32 := 2#32
  let v175 : BitVec 32 := Scalar.muli v9 c2_i32_107
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v177 : BitVec 32 := Scalar.muli v8 c1_i32_108
  let v178 : BitVec 32 := Scalar.addi v176 v177
  v178.toNat
def k0_dev13 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v188 : BitVec 32 := Scalar.muli v2 c4_i32_113
  let v189 : BitVec 32 := Scalar.addi c0_i32_114 v188
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_115 : BitVec 32 := 2#32
  let v190 : BitVec 32 := Scalar.muli v9 c2_i32_115
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v192 : BitVec 32 := Scalar.muli v8 c1_i32_116
  let v193 : BitVec 32 := Scalar.addi v191 v192
  v193.toNat
def k0_dev14 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v203 : BitVec 32 := Scalar.muli v2 c4_i32_121
  let v204 : BitVec 32 := Scalar.addi c0_i32_122 v203
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_123 : BitVec 32 := 2#32
  let v205 : BitVec 32 := Scalar.muli v9 c2_i32_123
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v207 : BitVec 32 := Scalar.muli v8 c1_i32_124
  let v208 : BitVec 32 := Scalar.addi v206 v207
  v208.toNat
def k0_dev15 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v218 : BitVec 32 := Scalar.muli v2 c4_i32_129
  let v219 : BitVec 32 := Scalar.addi c0_i32_130 v218
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_131 : BitVec 32 := 2#32
  let v220 : BitVec 32 := Scalar.muli v9 c2_i32_131
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v222 : BitVec 32 := Scalar.muli v8 c1_i32_132
  let v223 : BitVec 32 := Scalar.addi v221 v222
  v223.toNat
def k0_dev16 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v233 : BitVec 32 := Scalar.muli v2 c4_i32_137
  let v234 : BitVec 32 := Scalar.addi c0_i32_138 v233
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_139 : BitVec 32 := 2#32
  let v235 : BitVec 32 := Scalar.muli v9 c2_i32_139
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v237 : BitVec 32 := Scalar.muli v8 c1_i32_140
  let v238 : BitVec 32 := Scalar.addi v236 v237
  v238.toNat
def k0_dev17 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v248 : BitVec 32 := Scalar.muli v2 c4_i32_145
  let v249 : BitVec 32 := Scalar.addi c0_i32_146 v248
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_147 : BitVec 32 := 2#32
  let v250 : BitVec 32 := Scalar.muli v9 c2_i32_147
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v252 : BitVec 32 := Scalar.muli v8 c1_i32_148
  let v253 : BitVec 32 := Scalar.addi v251 v252
  v253.toNat
def k0_dev18 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v263 : BitVec 32 := Scalar.muli v2 c4_i32_153
  let v264 : BitVec 32 := Scalar.addi c0_i32_154 v263
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_155 : BitVec 32 := 2#32
  let v265 : BitVec 32 := Scalar.muli v9 c2_i32_155
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v267 : BitVec 32 := Scalar.muli v8 c1_i32_156
  let v268 : BitVec 32 := Scalar.addi v266 v267
  v268.toNat
def k0_dev19 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v278 : BitVec 32 := Scalar.muli v2 c4_i32_161
  let v279 : BitVec 32 := Scalar.addi c0_i32_162 v278
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_163 : BitVec 32 := 2#32
  let v280 : BitVec 32 := Scalar.muli v9 c2_i32_163
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v282 : BitVec 32 := Scalar.muli v8 c1_i32_164
  let v283 : BitVec 32 := Scalar.addi v281 v282
  v283.toNat
def k0_off3 (d0 : Dev nD) (c0_i32_168 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v28 : BitVec 32 := Scalar.muli v5 c4096_i32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1024_i32_16 : BitVec 32 := 1024#32
  let v27 : BitVec 32 := Scalar.muli v26 c1024_i32_16
  let v291 : BitVec 32 := Scalar.addi v28 v27
  let v292 : BitVec 32 := Scalar.addi v291 c0_i32_168
  let c0_i32_175 : BitVec 32 := 0#32
  ![v292.toNat, 0]
def k0_off4 (d0 : Dev nD) (c0_i32_167 : BitVec 32) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1024_i32_16 : BitVec 32 := 1024#32
  let v27 : BitVec 32 := Scalar.muli v26 c1024_i32_16
  let v290 : BitVec 32 := Scalar.addi v27 c0_i32_167
  let c0_i32_176 : BitVec 32 := 0#32
  ![v290.toNat, 0]
def k0_dev20 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v293 : BitVec 32 := Scalar.muli v2 c4_i32_171
  let v294 : BitVec 32 := Scalar.addi c0_i32_172 v293
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_173 : BitVec 32 := 2#32
  let v295 : BitVec 32 := Scalar.muli v9 c2_i32_173
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v297 : BitVec 32 := Scalar.muli v8 c1_i32_174
  let v298 : BitVec 32 := Scalar.addi v296 v297
  v298.toNat
def k0_dev21 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v308 : BitVec 32 := Scalar.muli v2 c4_i32_181
  let v309 : BitVec 32 := Scalar.addi c0_i32_182 v308
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_183 : BitVec 32 := 2#32
  let v310 : BitVec 32 := Scalar.muli v9 c2_i32_183
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v312 : BitVec 32 := Scalar.muli v8 c1_i32_184
  let v313 : BitVec 32 := Scalar.addi v311 v312
  v313.toNat
def k0_dev22 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v323 : BitVec 32 := Scalar.muli v2 c4_i32_191
  let v324 : BitVec 32 := Scalar.addi c0_i32_192 v323
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_193 : BitVec 32 := 2#32
  let v325 : BitVec 32 := Scalar.muli v9 c2_i32_193
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v327 : BitVec 32 := Scalar.muli v8 c1_i32_194
  let v328 : BitVec 32 := Scalar.addi v326 v327
  v328.toNat
def k0_dev23 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v338 : BitVec 32 := Scalar.muli v2 c4_i32_201
  let v339 : BitVec 32 := Scalar.addi c0_i32_202 v338
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_203 : BitVec 32 := 2#32
  let v340 : BitVec 32 := Scalar.muli v9 c2_i32_203
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v342 : BitVec 32 := Scalar.muli v8 c1_i32_204
  let v343 : BitVec 32 := Scalar.addi v341 v342
  v343.toNat
def k0_dev24 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v353 : BitVec 32 := Scalar.muli v2 c4_i32_211
  let v354 : BitVec 32 := Scalar.addi c0_i32_212 v353
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_213 : BitVec 32 := 2#32
  let v355 : BitVec 32 := Scalar.muli v9 c2_i32_213
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v357 : BitVec 32 := Scalar.muli v8 c1_i32_214
  let v358 : BitVec 32 := Scalar.addi v356 v357
  v358.toNat
def k0_dev25 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v368 : BitVec 32 := Scalar.muli v2 c4_i32_221
  let v369 : BitVec 32 := Scalar.addi c0_i32_222 v368
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_223 : BitVec 32 := 2#32
  let v370 : BitVec 32 := Scalar.muli v9 c2_i32_223
  let v371 : BitVec 32 := Scalar.addi v369 v370
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v372 : BitVec 32 := Scalar.muli v8 c1_i32_224
  let v373 : BitVec 32 := Scalar.addi v371 v372
  v373.toNat
def k0_off5 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v28 : BitVec 32 := Scalar.muli v5 c4096_i32
  let c0_i32_227 : BitVec 32 := 0#32
  ![v28.toNat, 0]
def k0_off6 (d0 : Dev nD) (c0_i32_238 : BitVec 32) : Fin 2 → Nat :=
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v29 : BitVec 32 := Scalar.subi c1_i32_17 v5
  let c4096_i32_18 : BitVec 32 := 4096#32
  let v30 : BitVec 32 := Scalar.muli v29 c4096_i32_18
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v394 : BitVec 32 := Scalar.addi v30 v14
  let v395 : BitVec 32 := Scalar.addi v394 c0_i32_238
  let c0_i32_245 : BitVec 32 := 0#32
  ![v395.toNat, 0]
def k0_dev26 (d0 : Dev nD) : Nat :=
  let c0_i32_242 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_241 : BitVec 32 := 4#32
  let v396 : BitVec 32 := Scalar.muli v10 c4_i32_241
  let v397 : BitVec 32 := Scalar.addi c0_i32_242 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v398 : BitVec 32 := Scalar.muli v5 c2_i32_243
  let v399 : BitVec 32 := Scalar.addi v397 v398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v400 : BitVec 32 := Scalar.muli v8 c1_i32_244
  let v401 : BitVec 32 := Scalar.addi v399 v400
  v401.toNat
def k0_dev27 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v410 : BitVec 32 := Scalar.muli v2 c4_i32_250
  let v411 : BitVec 32 := Scalar.addi c0_i32_251 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v412 : BitVec 32 := Scalar.muli v5 c2_i32_252
  let v413 : BitVec 32 := Scalar.addi v411 v412
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_253 : BitVec 32 := 1#32
  let v414 : BitVec 32 := Scalar.muli v11 c1_i32_253
  let v415 : BitVec 32 := Scalar.addi v413 v414
  v415.toNat
def k0_dev28 (d0 : Dev nD) : Nat :=
  let c0_i32_270 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_269 : BitVec 32 := 4#32
  let v437 : BitVec 32 := Scalar.muli v10 c4_i32_269
  let v438 : BitVec 32 := Scalar.addi c0_i32_270 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v439 : BitVec 32 := Scalar.muli v5 c2_i32_271
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v441 : BitVec 32 := Scalar.muli v8 c1_i32_272
  let v442 : BitVec 32 := Scalar.addi v440 v441
  v442.toNat
def k0_dev29 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_278 : BitVec 32 := 4#32
  let v451 : BitVec 32 := Scalar.muli v2 c4_i32_278
  let v452 : BitVec 32 := Scalar.addi c0_i32_279 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v453 : BitVec 32 := Scalar.muli v5 c2_i32_280
  let v454 : BitVec 32 := Scalar.addi v452 v453
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_281 : BitVec 32 := 1#32
  let v455 : BitVec 32 := Scalar.muli v11 c1_i32_281
  let v456 : BitVec 32 := Scalar.addi v454 v455
  v456.toNat
def k0_dev30 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v478 : BitVec 32 := Scalar.muli v10 c4_i32_297
  let v479 : BitVec 32 := Scalar.addi c0_i32_298 v478
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v480 : BitVec 32 := Scalar.muli v5 c2_i32_299
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v482 : BitVec 32 := Scalar.muli v8 c1_i32_300
  let v483 : BitVec 32 := Scalar.addi v481 v482
  v483.toNat
def k0_dev31 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v492 : BitVec 32 := Scalar.muli v2 c4_i32_306
  let v493 : BitVec 32 := Scalar.addi c0_i32_307 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_308 : BitVec 32 := 2#32
  let v494 : BitVec 32 := Scalar.muli v5 c2_i32_308
  let v495 : BitVec 32 := Scalar.addi v493 v494
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_309 : BitVec 32 := 1#32
  let v496 : BitVec 32 := Scalar.muli v11 c1_i32_309
  let v497 : BitVec 32 := Scalar.addi v495 v496
  v497.toNat
def k0_dev32 (d0 : Dev nD) : Nat :=
  let c0_i32_326 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_325 : BitVec 32 := 4#32
  let v519 : BitVec 32 := Scalar.muli v10 c4_i32_325
  let v520 : BitVec 32 := Scalar.addi c0_i32_326 v519
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v521 : BitVec 32 := Scalar.muli v5 c2_i32_327
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v523 : BitVec 32 := Scalar.muli v8 c1_i32_328
  let v524 : BitVec 32 := Scalar.addi v522 v523
  v524.toNat
def k0_dev33 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v533 : BitVec 32 := Scalar.muli v2 c4_i32_334
  let v534 : BitVec 32 := Scalar.addi c0_i32_335 v533
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v535 : BitVec 32 := Scalar.muli v5 c2_i32_336
  let v536 : BitVec 32 := Scalar.addi v534 v535
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_337 : BitVec 32 := 1#32
  let v537 : BitVec 32 := Scalar.muli v11 c1_i32_337
  let v538 : BitVec 32 := Scalar.addi v536 v537
  v538.toNat
def k0_dev34 (d0 : Dev nD) : Nat :=
  let c0_i32_354 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_353 : BitVec 32 := 4#32
  let v560 : BitVec 32 := Scalar.muli v10 c4_i32_353
  let v561 : BitVec 32 := Scalar.addi c0_i32_354 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_355 : BitVec 32 := 2#32
  let v562 : BitVec 32 := Scalar.muli v5 c2_i32_355
  let v563 : BitVec 32 := Scalar.addi v561 v562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_356 : BitVec 32 := 1#32
  let v564 : BitVec 32 := Scalar.muli v8 c1_i32_356
  let v565 : BitVec 32 := Scalar.addi v563 v564
  v565.toNat
def k0_dev35 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v574 : BitVec 32 := Scalar.muli v2 c4_i32_362
  let v575 : BitVec 32 := Scalar.addi c0_i32_363 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v576 : BitVec 32 := Scalar.muli v5 c2_i32_364
  let v577 : BitVec 32 := Scalar.addi v575 v576
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_365 : BitVec 32 := 1#32
  let v578 : BitVec 32 := Scalar.muli v11 c1_i32_365
  let v579 : BitVec 32 := Scalar.addi v577 v578
  v579.toNat
def k0_dev36 (d0 : Dev nD) : Nat :=
  let c0_i32_382 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_381 : BitVec 32 := 4#32
  let v601 : BitVec 32 := Scalar.muli v10 c4_i32_381
  let v602 : BitVec 32 := Scalar.addi c0_i32_382 v601
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_383 : BitVec 32 := 2#32
  let v603 : BitVec 32 := Scalar.muli v5 c2_i32_383
  let v604 : BitVec 32 := Scalar.addi v602 v603
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v605 : BitVec 32 := Scalar.muli v8 c1_i32_384
  let v606 : BitVec 32 := Scalar.addi v604 v605
  v606.toNat
def k0_dev37 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v615 : BitVec 32 := Scalar.muli v2 c4_i32_390
  let v616 : BitVec 32 := Scalar.addi c0_i32_391 v615
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v617 : BitVec 32 := Scalar.muli v5 c2_i32_392
  let v618 : BitVec 32 := Scalar.addi v616 v617
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_393 : BitVec 32 := 1#32
  let v619 : BitVec 32 := Scalar.muli v11 c1_i32_393
  let v620 : BitVec 32 := Scalar.addi v618 v619
  v620.toNat
def k0_dev38 (d0 : Dev nD) : Nat :=
  let c0_i32_410 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_409 : BitVec 32 := 4#32
  let v642 : BitVec 32 := Scalar.muli v10 c4_i32_409
  let v643 : BitVec 32 := Scalar.addi c0_i32_410 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v644 : BitVec 32 := Scalar.muli v5 c2_i32_411
  let v645 : BitVec 32 := Scalar.addi v643 v644
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_412 : BitVec 32 := 1#32
  let v646 : BitVec 32 := Scalar.muli v8 c1_i32_412
  let v647 : BitVec 32 := Scalar.addi v645 v646
  v647.toNat
def k0_dev39 (d0 : Dev nD) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v656 : BitVec 32 := Scalar.muli v2 c4_i32_418
  let v657 : BitVec 32 := Scalar.addi c0_i32_419 v656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_420 : BitVec 32 := 2#32
  let v658 : BitVec 32 := Scalar.muli v5 c2_i32_420
  let v659 : BitVec 32 := Scalar.addi v657 v658
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_421 : BitVec 32 := 1#32
  let v660 : BitVec 32 := Scalar.muli v11 c1_i32_421
  let v661 : BitVec 32 := Scalar.addi v659 v660
  v661.toNat
def k0_dev40 (d0 : Dev nD) : Nat :=
  let c0_i32_438 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_437 : BitVec 32 := 4#32
  let v683 : BitVec 32 := Scalar.muli v10 c4_i32_437
  let v684 : BitVec 32 := Scalar.addi c0_i32_438 v683
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_439 : BitVec 32 := 2#32
  let v685 : BitVec 32 := Scalar.muli v5 c2_i32_439
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_440 : BitVec 32 := 1#32
  let v687 : BitVec 32 := Scalar.muli v8 c1_i32_440
  let v688 : BitVec 32 := Scalar.addi v686 v687
  v688.toNat
def k0_dev41 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v697 : BitVec 32 := Scalar.muli v2 c4_i32_446
  let v698 : BitVec 32 := Scalar.addi c0_i32_447 v697
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_448 : BitVec 32 := 2#32
  let v699 : BitVec 32 := Scalar.muli v5 c2_i32_448
  let v700 : BitVec 32 := Scalar.addi v698 v699
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_449 : BitVec 32 := 1#32
  let v701 : BitVec 32 := Scalar.muli v11 c1_i32_449
  let v702 : BitVec 32 := Scalar.addi v700 v701
  v702.toNat
def k0_dev42 (d0 : Dev nD) : Nat :=
  let c0_i32_466 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_465 : BitVec 32 := 4#32
  let v724 : BitVec 32 := Scalar.muli v10 c4_i32_465
  let v725 : BitVec 32 := Scalar.addi c0_i32_466 v724
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_467 : BitVec 32 := 2#32
  let v726 : BitVec 32 := Scalar.muli v5 c2_i32_467
  let v727 : BitVec 32 := Scalar.addi v725 v726
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v728 : BitVec 32 := Scalar.muli v8 c1_i32_468
  let v729 : BitVec 32 := Scalar.addi v727 v728
  v729.toNat
def k0_dev43 (d0 : Dev nD) : Nat :=
  let c0_i32_475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_474 : BitVec 32 := 4#32
  let v738 : BitVec 32 := Scalar.muli v2 c4_i32_474
  let v739 : BitVec 32 := Scalar.addi c0_i32_475 v738
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_476 : BitVec 32 := 2#32
  let v740 : BitVec 32 := Scalar.muli v5 c2_i32_476
  let v741 : BitVec 32 := Scalar.addi v739 v740
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_477 : BitVec 32 := 1#32
  let v742 : BitVec 32 := Scalar.muli v11 c1_i32_477
  let v743 : BitVec 32 := Scalar.addi v741 v742
  v743.toNat
def k0_dev44 (d0 : Dev nD) : Nat :=
  let c0_i32_494 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_493 : BitVec 32 := 4#32
  let v765 : BitVec 32 := Scalar.muli v10 c4_i32_493
  let v766 : BitVec 32 := Scalar.addi c0_i32_494 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_495 : BitVec 32 := 2#32
  let v767 : BitVec 32 := Scalar.muli v5 c2_i32_495
  let v768 : BitVec 32 := Scalar.addi v766 v767
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_496 : BitVec 32 := 1#32
  let v769 : BitVec 32 := Scalar.muli v8 c1_i32_496
  let v770 : BitVec 32 := Scalar.addi v768 v769
  v770.toNat
def k0_dev45 (d0 : Dev nD) : Nat :=
  let c0_i32_503 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_502 : BitVec 32 := 4#32
  let v779 : BitVec 32 := Scalar.muli v2 c4_i32_502
  let v780 : BitVec 32 := Scalar.addi c0_i32_503 v779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_504 : BitVec 32 := 2#32
  let v781 : BitVec 32 := Scalar.muli v5 c2_i32_504
  let v782 : BitVec 32 := Scalar.addi v780 v781
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_505 : BitVec 32 := 1#32
  let v783 : BitVec 32 := Scalar.muli v11 c1_i32_505
  let v784 : BitVec 32 := Scalar.addi v782 v783
  v784.toNat
def k0_dev46 (d0 : Dev nD) : Nat :=
  let c0_i32_522 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_521 : BitVec 32 := 4#32
  let v806 : BitVec 32 := Scalar.muli v10 c4_i32_521
  let v807 : BitVec 32 := Scalar.addi c0_i32_522 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_523 : BitVec 32 := 2#32
  let v808 : BitVec 32 := Scalar.muli v5 c2_i32_523
  let v809 : BitVec 32 := Scalar.addi v807 v808
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_524 : BitVec 32 := 1#32
  let v810 : BitVec 32 := Scalar.muli v8 c1_i32_524
  let v811 : BitVec 32 := Scalar.addi v809 v810
  v811.toNat
def k0_dev47 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v820 : BitVec 32 := Scalar.muli v2 c4_i32_530
  let v821 : BitVec 32 := Scalar.addi c0_i32_531 v820
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v822 : BitVec 32 := Scalar.muli v5 c2_i32_532
  let v823 : BitVec 32 := Scalar.addi v821 v822
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_533 : BitVec 32 := 1#32
  let v824 : BitVec 32 := Scalar.muli v11 c1_i32_533
  let v825 : BitVec 32 := Scalar.addi v823 v824
  v825.toNat
def k0_dev48 (d0 : Dev nD) : Nat :=
  let c0_i32_550 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_549 : BitVec 32 := 4#32
  let v847 : BitVec 32 := Scalar.muli v10 c4_i32_549
  let v848 : BitVec 32 := Scalar.addi c0_i32_550 v847
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_551 : BitVec 32 := 2#32
  let v849 : BitVec 32 := Scalar.muli v5 c2_i32_551
  let v850 : BitVec 32 := Scalar.addi v848 v849
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_552 : BitVec 32 := 1#32
  let v851 : BitVec 32 := Scalar.muli v8 c1_i32_552
  let v852 : BitVec 32 := Scalar.addi v850 v851
  v852.toNat
def k0_dev49 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v861 : BitVec 32 := Scalar.muli v2 c4_i32_558
  let v862 : BitVec 32 := Scalar.addi c0_i32_559 v861
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_560 : BitVec 32 := 2#32
  let v863 : BitVec 32 := Scalar.muli v5 c2_i32_560
  let v864 : BitVec 32 := Scalar.addi v862 v863
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_561 : BitVec 32 := 1#32
  let v865 : BitVec 32 := Scalar.muli v11 c1_i32_561
  let v866 : BitVec 32 := Scalar.addi v864 v865
  v866.toNat
def k0_dev50 (d0 : Dev nD) : Nat :=
  let c0_i32_578 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_577 : BitVec 32 := 4#32
  let v888 : BitVec 32 := Scalar.muli v10 c4_i32_577
  let v889 : BitVec 32 := Scalar.addi c0_i32_578 v888
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_579 : BitVec 32 := 2#32
  let v890 : BitVec 32 := Scalar.muli v5 c2_i32_579
  let v891 : BitVec 32 := Scalar.addi v889 v890
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v892 : BitVec 32 := Scalar.muli v8 c1_i32_580
  let v893 : BitVec 32 := Scalar.addi v891 v892
  v893.toNat
def k0_dev51 (d0 : Dev nD) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v902 : BitVec 32 := Scalar.muli v2 c4_i32_586
  let v903 : BitVec 32 := Scalar.addi c0_i32_587 v902
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_588 : BitVec 32 := 2#32
  let v904 : BitVec 32 := Scalar.muli v5 c2_i32_588
  let v905 : BitVec 32 := Scalar.addi v903 v904
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_589 : BitVec 32 := 1#32
  let v906 : BitVec 32 := Scalar.muli v11 c1_i32_589
  let v907 : BitVec 32 := Scalar.addi v905 v906
  v907.toNat
def k0_dev52 (d0 : Dev nD) : Nat :=
  let c0_i32_606 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_605 : BitVec 32 := 4#32
  let v929 : BitVec 32 := Scalar.muli v10 c4_i32_605
  let v930 : BitVec 32 := Scalar.addi c0_i32_606 v929
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_607 : BitVec 32 := 2#32
  let v931 : BitVec 32 := Scalar.muli v5 c2_i32_607
  let v932 : BitVec 32 := Scalar.addi v930 v931
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_608 : BitVec 32 := 1#32
  let v933 : BitVec 32 := Scalar.muli v8 c1_i32_608
  let v934 : BitVec 32 := Scalar.addi v932 v933
  v934.toNat
def k0_dev53 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v943 : BitVec 32 := Scalar.muli v2 c4_i32_614
  let v944 : BitVec 32 := Scalar.addi c0_i32_615 v943
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_616 : BitVec 32 := 2#32
  let v945 : BitVec 32 := Scalar.muli v5 c2_i32_616
  let v946 : BitVec 32 := Scalar.addi v944 v945
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_617 : BitVec 32 := 1#32
  let v947 : BitVec 32 := Scalar.muli v11 c1_i32_617
  let v948 : BitVec 32 := Scalar.addi v946 v947
  v948.toNat
def k0_dev54 (d0 : Dev nD) : Nat :=
  let c0_i32_634 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_633 : BitVec 32 := 4#32
  let v970 : BitVec 32 := Scalar.muli v10 c4_i32_633
  let v971 : BitVec 32 := Scalar.addi c0_i32_634 v970
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_635 : BitVec 32 := 2#32
  let v972 : BitVec 32 := Scalar.muli v5 c2_i32_635
  let v973 : BitVec 32 := Scalar.addi v971 v972
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_636 : BitVec 32 := 1#32
  let v974 : BitVec 32 := Scalar.muli v8 c1_i32_636
  let v975 : BitVec 32 := Scalar.addi v973 v974
  v975.toNat
def k0_dev55 (d0 : Dev nD) : Nat :=
  let c0_i32_643 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_642 : BitVec 32 := 4#32
  let v984 : BitVec 32 := Scalar.muli v2 c4_i32_642
  let v985 : BitVec 32 := Scalar.addi c0_i32_643 v984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_644 : BitVec 32 := 2#32
  let v986 : BitVec 32 := Scalar.muli v5 c2_i32_644
  let v987 : BitVec 32 := Scalar.addi v985 v986
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_645 : BitVec 32 := 1#32
  let v988 : BitVec 32 := Scalar.muli v11 c1_i32_645
  let v989 : BitVec 32 := Scalar.addi v987 v988
  v989.toNat
def k0_dev56 (d0 : Dev nD) : Nat :=
  let c0_i32_662 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_661 : BitVec 32 := 4#32
  let v1011 : BitVec 32 := Scalar.muli v10 c4_i32_661
  let v1012 : BitVec 32 := Scalar.addi c0_i32_662 v1011
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_663 : BitVec 32 := 2#32
  let v1013 : BitVec 32 := Scalar.muli v5 c2_i32_663
  let v1014 : BitVec 32 := Scalar.addi v1012 v1013
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_664 : BitVec 32 := 1#32
  let v1015 : BitVec 32 := Scalar.muli v8 c1_i32_664
  let v1016 : BitVec 32 := Scalar.addi v1014 v1015
  v1016.toNat
def k0_dev57 (d0 : Dev nD) : Nat :=
  let c0_i32_671 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_670 : BitVec 32 := 4#32
  let v1025 : BitVec 32 := Scalar.muli v2 c4_i32_670
  let v1026 : BitVec 32 := Scalar.addi c0_i32_671 v1025
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_672 : BitVec 32 := 2#32
  let v1027 : BitVec 32 := Scalar.muli v5 c2_i32_672
  let v1028 : BitVec 32 := Scalar.addi v1026 v1027
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_673 : BitVec 32 := 1#32
  let v1029 : BitVec 32 := Scalar.muli v11 c1_i32_673
  let v1030 : BitVec 32 := Scalar.addi v1028 v1029
  v1030.toNat
def k0_off7 (d0 : Dev nD) (c384_i32_793 : BitVec 32) : Fin 2 → Nat :=
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v29 : BitVec 32 := Scalar.subi c1_i32_17 v5
  let c4096_i32_18 : BitVec 32 := 4096#32
  let v30 : BitVec 32 := Scalar.muli v29 c4096_i32_18
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c1024_i32_12 : BitVec 32 := 1024#32
  let v22 : BitVec 32 := Scalar.muli v21 c1024_i32_12
  let v1193 : BitVec 32 := Scalar.addi v30 v22
  let v1194 : BitVec 32 := Scalar.addi v1193 c384_i32_793
  let c0_i32_800 : BitVec 32 := 0#32
  ![v1194.toNat, 0]
def k0_dev58 (d0 : Dev nD) : Nat :=
  let c0_i32_797 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_796 : BitVec 32 := 4#32
  let v1195 : BitVec 32 := Scalar.muli v10 c4_i32_796
  let v1196 : BitVec 32 := Scalar.addi c0_i32_797 v1195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_798 : BitVec 32 := 2#32
  let v1197 : BitVec 32 := Scalar.muli v5 c2_i32_798
  let v1198 : BitVec 32 := Scalar.addi v1196 v1197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_799 : BitVec 32 := 1#32
  let v1199 : BitVec 32 := Scalar.muli v8 c1_i32_799
  let v1200 : BitVec 32 := Scalar.addi v1198 v1199
  v1200.toNat
def k0_dev59 (d0 : Dev nD) : Nat :=
  let c0_i32_824 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_823 : BitVec 32 := 4#32
  let v1233 : BitVec 32 := Scalar.muli v10 c4_i32_823
  let v1234 : BitVec 32 := Scalar.addi c0_i32_824 v1233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_825 : BitVec 32 := 2#32
  let v1235 : BitVec 32 := Scalar.muli v5 c2_i32_825
  let v1236 : BitVec 32 := Scalar.addi v1234 v1235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_826 : BitVec 32 := 1#32
  let v1237 : BitVec 32 := Scalar.muli v8 c1_i32_826
  let v1238 : BitVec 32 := Scalar.addi v1236 v1237
  v1238.toNat
def k0_dev60 (d0 : Dev nD) : Nat :=
  let c0_i32_851 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_850 : BitVec 32 := 4#32
  let v1271 : BitVec 32 := Scalar.muli v10 c4_i32_850
  let v1272 : BitVec 32 := Scalar.addi c0_i32_851 v1271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_852 : BitVec 32 := 2#32
  let v1273 : BitVec 32 := Scalar.muli v5 c2_i32_852
  let v1274 : BitVec 32 := Scalar.addi v1272 v1273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_853 : BitVec 32 := 1#32
  let v1275 : BitVec 32 := Scalar.muli v8 c1_i32_853
  let v1276 : BitVec 32 := Scalar.addi v1274 v1275
  v1276.toNat
def k0_dev61 (d0 : Dev nD) : Nat :=
  let c0_i32_878 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_877 : BitVec 32 := 4#32
  let v1309 : BitVec 32 := Scalar.muli v10 c4_i32_877
  let v1310 : BitVec 32 := Scalar.addi c0_i32_878 v1309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_879 : BitVec 32 := 2#32
  let v1311 : BitVec 32 := Scalar.muli v5 c2_i32_879
  let v1312 : BitVec 32 := Scalar.addi v1310 v1311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_880 : BitVec 32 := 1#32
  let v1313 : BitVec 32 := Scalar.muli v8 c1_i32_880
  let v1314 : BitVec 32 := Scalar.addi v1312 v1313
  v1314.toNat
def k0_dev62 (d0 : Dev nD) : Nat :=
  let c0_i32_905 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_904 : BitVec 32 := 4#32
  let v1347 : BitVec 32 := Scalar.muli v10 c4_i32_904
  let v1348 : BitVec 32 := Scalar.addi c0_i32_905 v1347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_906 : BitVec 32 := 2#32
  let v1349 : BitVec 32 := Scalar.muli v5 c2_i32_906
  let v1350 : BitVec 32 := Scalar.addi v1348 v1349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_907 : BitVec 32 := 1#32
  let v1351 : BitVec 32 := Scalar.muli v8 c1_i32_907
  let v1352 : BitVec 32 := Scalar.addi v1350 v1351
  v1352.toNat
def k0_off8 (d0 : Dev nD) (c704_i32_937 : BitVec 32) : Fin 2 → Nat :=
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v29 : BitVec 32 := Scalar.subi c1_i32_17 v5
  let c4096_i32_18 : BitVec 32 := 4096#32
  let v30 : BitVec 32 := Scalar.muli v29 c4096_i32_18
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_9 : BitVec 32 := 1024#32
  let v18 : BitVec 32 := Scalar.muli v17 c1024_i32_9
  let v1395 : BitVec 32 := Scalar.addi v30 v18
  let v1396 : BitVec 32 := Scalar.addi v1395 c704_i32_937
  let c0_i32_944 : BitVec 32 := 0#32
  ![v1396.toNat, 0]
def k0_dev63 (d0 : Dev nD) : Nat :=
  let c0_i32_941 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_940 : BitVec 32 := 4#32
  let v1397 : BitVec 32 := Scalar.muli v2 c4_i32_940
  let v1398 : BitVec 32 := Scalar.addi c0_i32_941 v1397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_942 : BitVec 32 := 2#32
  let v1399 : BitVec 32 := Scalar.muli v5 c2_i32_942
  let v1400 : BitVec 32 := Scalar.addi v1398 v1399
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_943 : BitVec 32 := 1#32
  let v1401 : BitVec 32 := Scalar.muli v11 c1_i32_943
  let v1402 : BitVec 32 := Scalar.addi v1400 v1401
  v1402.toNat
def k0_dev64 (d0 : Dev nD) : Nat :=
  let c0_i32_968 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_967 : BitVec 32 := 4#32
  let v1435 : BitVec 32 := Scalar.muli v2 c4_i32_967
  let v1436 : BitVec 32 := Scalar.addi c0_i32_968 v1435
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_969 : BitVec 32 := 2#32
  let v1437 : BitVec 32 := Scalar.muli v5 c2_i32_969
  let v1438 : BitVec 32 := Scalar.addi v1436 v1437
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_970 : BitVec 32 := 1#32
  let v1439 : BitVec 32 := Scalar.muli v11 c1_i32_970
  let v1440 : BitVec 32 := Scalar.addi v1438 v1439
  v1440.toNat
def k0_dev65 (d0 : Dev nD) : Nat :=
  let c0_i32_995 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_994 : BitVec 32 := 4#32
  let v1473 : BitVec 32 := Scalar.muli v2 c4_i32_994
  let v1474 : BitVec 32 := Scalar.addi c0_i32_995 v1473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_996 : BitVec 32 := 2#32
  let v1475 : BitVec 32 := Scalar.muli v5 c2_i32_996
  let v1476 : BitVec 32 := Scalar.addi v1474 v1475
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_997 : BitVec 32 := 1#32
  let v1477 : BitVec 32 := Scalar.muli v11 c1_i32_997
  let v1478 : BitVec 32 := Scalar.addi v1476 v1477
  v1478.toNat
def k0_dev66 (d0 : Dev nD) : Nat :=
  let c0_i32_1022 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1021 : BitVec 32 := 4#32
  let v1511 : BitVec 32 := Scalar.muli v2 c4_i32_1021
  let v1512 : BitVec 32 := Scalar.addi c0_i32_1022 v1511
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1023 : BitVec 32 := 2#32
  let v1513 : BitVec 32 := Scalar.muli v5 c2_i32_1023
  let v1514 : BitVec 32 := Scalar.addi v1512 v1513
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1024 : BitVec 32 := 1#32
  let v1515 : BitVec 32 := Scalar.muli v11 c1_i32_1024
  let v1516 : BitVec 32 := Scalar.addi v1514 v1515
  v1516.toNat
def k0_dev67 (d0 : Dev nD) : Nat :=
  let c0_i32_1049 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1048 : BitVec 32 := 4#32
  let v1549 : BitVec 32 := Scalar.muli v2 c4_i32_1048
  let v1550 : BitVec 32 := Scalar.addi c0_i32_1049 v1549
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1050 : BitVec 32 := 2#32
  let v1551 : BitVec 32 := Scalar.muli v5 c2_i32_1050
  let v1552 : BitVec 32 := Scalar.addi v1550 v1551
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1051 : BitVec 32 := 1#32
  let v1553 : BitVec 32 := Scalar.muli v11 c1_i32_1051
  let v1554 : BitVec 32 := Scalar.addi v1552 v1553
  v1554.toNat
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/-
# The kernel as a list of steps

A device runs a straight line of 198 operations: three signals and a wait at the entry, 64 remote copies, one local
copy, and the waits for them. This file names the 64 copies (`Edge`), the operations (`Step`), gives the list in
program order (`steps`) and shows that the printed kernel is that list (`body_eq`).
-/
module

public import proofs.«01_k».proof.Proof.Gen.KernelIdeal
public import proofs.«01_k».proof.Proof.Gen.KernelIdeal.Skeleton

@[expose] public section

noncomputable section

namespace Cert.Relay

open Cert.KernelIdeal Cert.KernelIdeal.Gen
open Idealize.ShloMosaic Idealize.SL.Sem

variable {F : FTy → Type} [FloatOps F]

/-- The three axes of the mesh; a copy runs between neighbours along one of them. -/
inductive Axis | x | y | z
  deriving DecidableEq

/-- The remote copies a device starts, one name each. A device sends to its neighbour along `y` sixteen chunks of its
    own quarter (`ydir`) and six of the opposite quarter (`ydiag`); it passes every chunk of its own quarter it received
    on to its neighbours along `x` and `z` (`xdir`, `zdir`), and passes five chunks that came along `z` on along `x`
    (`xhalf`) and five that came along `x` on along `z` (`zhalf`). -/
inductive Edge
  | ydir (k : Fin 16) | ydiag (k : Fin 6) | xdir (k : Fin 16) | zdir (k : Fin 16) | xhalf (j : Fin 5) | zhalf (j : Fin 5)
  deriving DecidableEq

/-- The axis a copy runs along. -/
def Edge.axis : Edge → Axis
  | .ydir _ | .ydiag _ => .y
  | .xdir _ | .xhalf _ => .x
  | .zdir _ | .zhalf _ => .z

/-- One operation of a device. -/
inductive Step
  | signal (a : Axis) | gather | start (e : Edge) | waitRecv (e : Edge) | waitSend (e : Edge) | localStart | localWait
  deriving DecidableEq

/-- The neighbour along an axis, as the kernel computes its number. -/
def peer (d : Dev nD) : Axis → Dev nD
  | .y => ⟨k0_dev1 d, k0_dev1_lt d⟩
  | .x => ⟨k0_dev2 d, k0_dev2_lt d⟩
  | .z => ⟨k0_dev3 d, k0_dev3_lt d⟩

/-- The argument and the result of the kernel, as memrefs. -/
abbrev xM : Memref sig .tc .hbm S4096x1024 .f32 := Memref.whole main_arg0
abbrev oM : Memref sig .tc .hbm S8192x1024 .f32 := Memref.whole main_v1

/-- The 64 rows of the argument, and of the result, from an offset on. -/
abbrev xRows (o : Fin 2 → Nat) (h : ∀ a, o a + S64x1024.size a ≤ S4096x1024.size a) : Memref sig .tc .hbm S64x1024 .f32 :=
  xM.slice (Rect.unit (s := S4096x1024) o S64x1024.size h) (fun _ => rfl)
abbrev oRows (o : Fin 2 → Nat) (h : ∀ a, o a + S64x1024.size a ≤ S8192x1024.size a) : Memref sig .tc .hbm S64x1024 .f32 :=
  oM.slice (Rect.unit (s := S8192x1024) o S64x1024.size h) (fun _ => rfl)

/-- Where a copy reads on device `d`. -/
def srcM (d : Dev nD) : Edge → Memref sig .tc .hbm S64x1024 .f32
  | .ydir k => xRows (k0_off2 d (BitVec.ofNat 32 (64 * k.val))) (k0_off2_inb d k)
  | .ydiag k => xRows (k0_off4 d (BitVec.ofNat 32 (64 * k.val))) (k0_off4_inb d k)
  | .xdir k | .zdir k => oRows (k0_off6 d (BitVec.ofNat 32 (64 * k.val))) (k0_off6_inb d k)
  | .xhalf j => oRows (k0_off7 d (BitVec.ofNat 32 (384 + 64 * j.val))) (k0_off7_inb d j)
  | .zhalf j => oRows (k0_off8 d (BitVec.ofNat 32 (704 + 64 * j.val))) (k0_off8_inb d j)

/-- Where a copy started by `d` writes, on the neighbour: the offsets are those `d` computes. -/
def dstM (d : Dev nD) : Edge → Memref sig .tc .hbm S64x1024 .f32
  | .ydir k => oRows (k0_off1 d (BitVec.ofNat 32 (64 * k.val))) (k0_off1_inb d k)
  | .ydiag k => oRows (k0_off3 d (BitVec.ofNat 32 (64 * k.val))) (k0_off3_inb d k)
  | .xdir k | .zdir k => oRows (k0_off6 d (BitVec.ofNat 32 (64 * k.val))) (k0_off6_inb d k)
  | .xhalf j => oRows (k0_off7 d (BitVec.ofNat 32 (384 + 64 * j.val))) (k0_off7_inb d j)
  | .zhalf j => oRows (k0_off8 d (BitVec.ofNat 32 (704 + 64 * j.val))) (k0_off8_inb d j)

/-- The half of the result a device fills from its own argument. -/
abbrev ownM (d : Dev nD) : Memref sig .tc .hbm S4096x1024 .f32 :=
  oM.slice (Rect.unit (s := S8192x1024) (k0_off5 d) S4096x1024.size (k0_off5_inb d)) (fun _ => rfl)

/-- The kernel's DMA semaphore of a number. -/
abbrev dma (n : ℕ) (h : n < 129) : DmaSem sig := (⟨n, h⟩ : Fin 129)

/-- The semaphore that counts a copy's departure, on the device that starts it. -/
def sendS : Edge → DmaSem sig
  | .ydir k => dma (k.val) (by omega)
  | .ydiag k => dma (32 + k.val) (by omega)
  | .xdir k => dma (44 + k.val) (by omega)
  | .zdir k => dma (76 + k.val) (by omega)
  | .xhalf j => dma (108 + j.val) (by omega)
  | .zhalf j => dma (118 + j.val) (by omega)

/-- The semaphore that counts a copy's arrival, on the device it is sent to. -/
def recvS : Edge → DmaSem sig
  | .ydir k => dma (16 + k.val) (by omega)
  | .ydiag k => dma (38 + k.val) (by omega)
  | .xdir k => dma (60 + k.val) (by omega)
  | .zdir k => dma (92 + k.val) (by omega)
  | .xhalf j => dma (113 + j.val) (by omega)
  | .zhalf j => dma (123 + j.val) (by omega)

/-- The local copy's semaphore, and the barrier semaphore. -/
abbrev locS : DmaSem sig := dma 128 (by omega)
abbrev barS : Sem sig := barrier0

theorem srcM_wordExact (d : Dev nD) (e : Edge) : (srcM d e).view.WordExact := by cases e <;> exact View.wordExact_bits rfl
theorem dstM_wordExact (d : Dev nD) (e : Edge) : (dstM d e).view.WordExact := by cases e <;> exact View.wordExact_bits rfl
theorem dstM_notScratch (d : Dev nD) (e : Edge) : (dstM d e).view.ref.isScScratch = false := by cases e <;> rfl
theorem ownM_wordExact (d : Dev nD) : (ownM d).view.WordExact := View.wordExact_bits rfl

/-- The operation of a step on device `d`. -/
def Step.op (d : Dev nD) : Step → TpuEff nD τ sig (Elt F) Λ₀ .tc PUnit
  | .signal a => .semSignal (Dev.tc (peer d a)) barS (1 : ℕ)
  | .gather => .semWait barS (3 : ℕ)
  | .start e => .enqueueDma (srcM d e) (.remote (Dev.tc (peer d e.axis)) (dstM d e) (.dma (sendS e)) (dstM_notScratch d e))
      (.dma (recvS e)) (srcM_wordExact d e) (dstM_wordExact d e) ⟨⟨rfl, Or.inl rfl⟩, trivial⟩
  | .waitRecv e => .waitDma2 (recvS e) (srcM d e) (dstM d e) (srcM_wordExact d e) (dstM_wordExact d e)
  | .waitSend e => .waitDma2 (sendS e) (dstM d e) (srcM d e) (dstM_wordExact d e) (srcM_wordExact d e)
  | .localStart => .enqueueDma xM (.here (ownM d)) (.dma locS) (Memref.isWhole_whole _).wordExact (ownM_wordExact d) ⟨Or.inl rfl, trivial⟩
  | .localWait => .waitDma2 locS xM (ownM d) (Memref.isWhole_whole _).wordExact (ownM_wordExact d)

/-- A list of steps as a program. -/
def prog (d : Dev nD) : List Step → Prog (TpuEff nD τ sig (Elt F) Λ₀ .tc) PUnit
  | [] => .ret ⟨⟩
  | s :: l => .op (s.op d) fun _ => prog d l

/-- The entry: signal the three neighbours, wait for their three signals. -/
def entrySteps : List Step := [.signal .y, .signal .x, .signal .z, .gather]
/-- The copies along `y` and the local copy. -/
def ySteps : List Step :=
  (List.ofFn fun k : Fin 16 => .start (.ydir k)) ++ (List.ofFn fun k : Fin 6 => .start (.ydiag k)) ++ [.localStart]
/-- Every chunk of the own quarter is passed on as it arrives. -/
def forwardSteps : List Step :=
  (List.ofFn fun k : Fin 16 => [Step.waitRecv (.ydir k), .start (.xdir k), .start (.zdir k)]).flatten
/-- The chunks that came along `z` and `x` arrive; five of each are passed on along the other axis. -/
def relaySteps : List Step :=
  (List.ofFn fun k : Fin 16 =>
    (Step.waitRecv (.zdir k)) :: ((if h : 6 ≤ k.val ∧ k.val < 11 then [Step.start (.xhalf ⟨k.val - 6, by omega⟩)] else [])
      ++ Step.waitRecv (.xdir k) :: (if h : 11 ≤ k.val then [Step.start (.zhalf ⟨k.val - 11, by omega⟩)] else []))).flatten
/-- The last arrivals. -/
def arriveSteps : List Step :=
  (List.ofFn fun k : Fin 6 => .waitRecv (.ydiag k)) ++ (List.ofFn fun j : Fin 5 => .waitRecv (.xhalf j))
    ++ (List.ofFn fun j : Fin 5 => .waitRecv (.zhalf j))
/-- The departures, and the local copy. -/
def departSteps : List Step :=
  (List.ofFn fun k : Fin 16 => [Step.waitSend (.ydir k), .waitSend (.xdir k), .waitSend (.zdir k)]).flatten
    ++ (List.ofFn fun k : Fin 6 => .waitSend (.ydiag k)) ++ (List.ofFn fun j : Fin 5 => .waitSend (.xhalf j))
    ++ (List.ofFn fun j : Fin 5 => .waitSend (.zhalf j)) ++ [.localWait]

/-- The whole kernel. -/
def steps : List Step := entrySteps ++ ySteps ++ forwardSteps ++ relaySteps ++ arriveSteps ++ departSteps

set_option maxRecDepth 65536 in
/-- The printed kernel runs the steps. -/
theorem body_eq :
    cc0_body (F := F) xM (Memref.isWhole_whole _) oM (Memref.isWhole_whole _) cc0_scratch0 cc0_scratch1 cc0_scratch2 cc0_scratch3 cc0_scratch4
      cc0_scratch5 cc0_scratch6 cc0_scratch7 cc0_scratch8 cc0_scratch9 cc0_scratch10 cc0_scratch11 cc0_scratch12
      = .op .deviceId fun d => prog d steps := rfl

end Cert.Relay

end
-- ==== Proof.Mesh.lean ====
/-
# The mesh and the chunks

The result is 8192 rows, 128 chunks of 64 rows. On every device the 64 copies it receives fill 64 different chunks, the
half that is not its own. This file gives the number of the chunk a copy fills (`chunkOf`), the device whose argument a
chunk of a device's result comes from (`origin`), and the offsets the kernel computes in these terms. All of it is a
finite table over the eight devices and the 64 copies, and is decided.
-/
module

public import proofs.«01_k».proof.Proof.Steps

@[expose] public section

noncomputable section

namespace Cert.Relay

open Cert.KernelIdeal Cert.KernelIdeal.Gen
open Idealize.ShloMosaic Idealize.SL.Sem

/-! ## All copies, listed -/

/-- Every copy once. -/
def edges : List Edge :=
  (List.ofFn Edge.ydir) ++ (List.ofFn Edge.ydiag) ++ (List.ofFn Edge.xdir) ++ (List.ofFn Edge.zdir) ++ (List.ofFn Edge.xhalf)
    ++ (List.ofFn Edge.zhalf)

theorem mem_edges (e : Edge) : e ∈ edges := by
  unfold edges
  simp only [List.mem_append, List.mem_ofFn]
  cases e with
  | ydir k => exact .inl (.inl (.inl (.inl (.inl ⟨k, rfl⟩))))
  | ydiag k => exact .inl (.inl (.inl (.inl (.inr ⟨k, rfl⟩))))
  | xdir k => exact .inl (.inl (.inl (.inr ⟨k, rfl⟩)))
  | zdir k => exact .inl (.inl (.inr ⟨k, rfl⟩))
  | xhalf k => exact .inl (.inr ⟨k, rfl⟩)
  | zhalf k => exact .inr ⟨k, rfl⟩

instance : Fintype Edge := ⟨edges.toFinset, fun e => List.mem_toFinset.2 (mem_edges e)⟩

theorem edges_nodup : edges.Nodup := by decide +kernel

instance : Fintype Axis := ⟨[Axis.y, .x, .z].toFinset, fun a => by cases a <;> decide⟩

/-! ## The mesh -/

/-- A device's coordinates. -/
abbrev cx (d : Dev nD) : ℕ := d.val / 4
abbrev cy (d : Dev nD) : ℕ := d.val / 2 % 2
abbrev cz (d : Dev nD) : ℕ := d.val % 2

theorem peer_peer (a : Axis) (d : Dev nD) : peer (peer d a) a = d := by revert d a; decide +kernel

/-- The neighbours along an axis, as a permutation of the devices. -/
def peerEquiv (a : Axis) : Dev nD ≃ Dev nD := ⟨fun d => peer d a, fun d => peer d a, peer_peer a, peer_peer a⟩

/-! ## Chunk numbers -/

/-- The chunk of `c`'s result that the copy `e` sent to `c` fills: the half of the neighbour along `y`, the quarter by
    the other two coordinates, the chunk of that quarter. -/
def chunkOf (c : Dev nD) : Edge → ℕ
  | .ydir k => 64 * (1 - cy c) + 16 * (2 * cx c + cz c) + k.val
  | .ydiag k => 64 * (1 - cy c) + 16 * (2 * (1 - cx c) + (1 - cz c)) + k.val
  | .xdir k => 64 * (1 - cy c) + 16 * (2 * (1 - cx c) + cz c) + k.val
  | .zdir k => 64 * (1 - cy c) + 16 * (2 * cx c + (1 - cz c)) + k.val
  | .xhalf j => 64 * (1 - cy c) + 16 * (2 * (1 - cx c) + (1 - cz c)) + (6 + j.val)
  | .zhalf j => 64 * (1 - cy c) + 16 * (2 * (1 - cx c) + (1 - cz c)) + (11 + j.val)

/-- The chunk of the argument that a copy along `y` reads. -/
def argChunk (d : Dev nD) (e : Edge) : ℕ := chunkOf (peer d .y) e % 64

theorem chunkOf_inj (c : Dev nD) : Function.Injective (chunkOf c) := by
  have h : ∀ (c : Dev nD) (e e' : Edge), chunkOf c e = chunkOf c e' → e = e' := by decide +kernel
  exact fun e e' => h c e e'

theorem chunkOf_half (c : Dev nD) (e : Edge) : chunkOf c e / 64 = 1 - cy c := by revert c e; decide +kernel

theorem argChunk_inj (d : Dev nD) : Function.Injective (argChunk d) := by
  have h : ∀ (c : Dev nD) (e e' : Edge), argChunk c e = argChunk c e' → e = e' := by decide +kernel
  exact fun e e' => h d e e'

/-- Every chunk of the other half is filled by some copy. -/
theorem exists_chunk (c : Dev nD) (q : Fin 128) (h : q.val / 64 ≠ cy c) : ∃ e, chunkOf c e = q.val := by
  revert c q; decide +kernel

/-- The chunks that are passed on: where a copy along `x` or `z` reads is where an earlier copy to the same device
    wrote. -/
theorem chunk_xdir (d : Dev nD) (k : Fin 16) : chunkOf (peer d .x) (.xdir k) = chunkOf d (.ydir k) := by
  revert d k; decide +kernel
theorem chunk_zdir (d : Dev nD) (k : Fin 16) : chunkOf (peer d .z) (.zdir k) = chunkOf d (.ydir k) := by
  revert d k; decide +kernel
theorem chunk_xhalf (d : Dev nD) (j : Fin 5) : chunkOf (peer d .x) (.xhalf j) = chunkOf d (.zdir ⟨6 + j.val, by omega⟩) := by
  revert d j; decide +kernel
theorem chunk_zhalf (d : Dev nD) (j : Fin 5) : chunkOf (peer d .z) (.zhalf j) = chunkOf d (.xdir ⟨11 + j.val, by omega⟩) := by
  revert d j; decide +kernel

/-! ## Where a chunk comes from -/

/-- The device whose argument chunk `q` of `c`'s result is a part of. -/
def origin (c : Dev nD) (q : ℕ) : Dev nD :=
  if q / 64 = cy c then c
  else if q / 32 % 2 = cx c then
    if q / 16 % 2 = cz c then peer c .y else peer (peer c .z) .y
  else if q / 16 % 2 = cz c then peer (peer c .x) .y
  else if q % 16 < 6 then peer c .y else peer (peer (peer c .x) .z) .y

/-- A copy along `y` carries the sender's own argument. -/
theorem origin_direct (d : Dev nD) (e : Edge) (h : e.axis = .y) : origin (peer d .y) (chunkOf (peer d .y) e) = d := by
  revert d e; decide +kernel

/-- A copy along `x` or `z` carries what the sender's result has in the same place. -/
theorem origin_passed (d : Dev nD) (e : Edge) (h : e.axis ≠ .y) :
    origin (peer d e.axis) (chunkOf (peer d e.axis) e) = origin d (chunkOf (peer d e.axis) e) := by
  revert d e; decide +kernel

/-- Whichever way a chunk came, it started at a device of the half it belongs to. -/
theorem origin_half (c : Dev nD) (q : Fin 128) : cy (origin c q.val) = q.val / 64 := by revert c q; decide +kernel

/-! ## The offsets the kernel computes -/

theorem off_ydir (d : Dev nD) (k : Fin 16) :
    k0_off1 d (BitVec.ofNat 32 (64 * k.val)) = ![64 * chunkOf (peer d .y) (.ydir k), 0] := by revert d k; decide +kernel
theorem off_ydiag (d : Dev nD) (k : Fin 6) :
    k0_off3 d (BitVec.ofNat 32 (64 * k.val)) = ![64 * chunkOf (peer d .y) (.ydiag k), 0] := by revert d k; decide +kernel
theorem off_xdir (d : Dev nD) (k : Fin 16) :
    k0_off6 d (BitVec.ofNat 32 (64 * k.val)) = ![64 * chunkOf (peer d .x) (.xdir k), 0] := by revert d k; decide +kernel
theorem off_zdir (d : Dev nD) (k : Fin 16) :
    k0_off6 d (BitVec.ofNat 32 (64 * k.val)) = ![64 * chunkOf (peer d .z) (.zdir k), 0] := by revert d k; decide +kernel
theorem off_xhalf (d : Dev nD) (j : Fin 5) :
    k0_off7 d (BitVec.ofNat 32 (384 + 64 * j.val)) = ![64 * chunkOf (peer d .x) (.xhalf j), 0] := by revert d j; decide +kernel
theorem off_zhalf (d : Dev nD) (j : Fin 5) :
    k0_off8 d (BitVec.ofNat 32 (704 + 64 * j.val)) = ![64 * chunkOf (peer d .z) (.zhalf j), 0] := by revert d j; decide +kernel
theorem off_arg_ydir (d : Dev nD) (k : Fin 16) :
    k0_off2 d (BitVec.ofNat 32 (64 * k.val)) = ![64 * argChunk d (.ydir k), 0] := by revert d k; decide +kernel
theorem off_arg_ydiag (d : Dev nD) (k : Fin 6) :
    k0_off4 d (BitVec.ofNat 32 (64 * k.val)) = ![64 * argChunk d (.ydiag k), 0] := by revert d k; decide +kernel

end Cert.Relay

end
-- ==== Proof.Chunks.lean ====
/-
# What the copies carry

The elements of a chunk (`chunkSet`), the contents the result of a device ends with (`gathered`), and that a copy writes
exactly those contents, wherever it reads: from the argument (`direct_write`), from the sender's own result
(`passed_write`), or the whole argument to the own half (`own_write`).
-/
module

public import proofs.«01_k».proof.Proof.Mesh

@[expose] public section

noncomputable section

namespace Cert.Relay

open Cert.KernelIdeal Cert.KernelIdeal.Gen
open Idealize.ShloMosaic Idealize.SL.Sem
open Idealize.ShloMosaic.TcCoe

variable {F : FTy → Type}

/-! ## The elements of a chunk, and of a half -/

/-- The elements of chunk `q` of the result, of chunk `q` of the argument, and of half `y` of the result. -/
def chunkSet (q : ℕ) : Finset S8192x1024.Idx := Finset.univ.filter fun i => (i 0).val / 64 = q
def argSet (q : ℕ) : Finset S4096x1024.Idx := Finset.univ.filter fun i => (i 0).val / 64 = q
def halfSet (y : ℕ) : Finset S8192x1024.Idx := Finset.univ.filter fun i => (i 0).val / 4096 = y

theorem chunkSet_disjoint {q q' : ℕ} (h : q ≠ q') : Disjoint (chunkSet q) (chunkSet q') :=
  Finset.disjoint_left.2 fun i hi hi' => h ((Finset.mem_filter.1 hi).2.symm.trans (Finset.mem_filter.1 hi').2)
theorem argSet_disjoint {q q' : ℕ} (h : q ≠ q') : Disjoint (argSet q) (argSet q') :=
  Finset.disjoint_left.2 fun i hi hi' => h ((Finset.mem_filter.1 hi).2.symm.trans (Finset.mem_filter.1 hi').2)

/-- The own half and the chunks the copies fill make up the result. -/
theorem cover (c : Dev nD) : halfSet (cy c) ∪ Finset.univ.biUnion (fun e => chunkSet (chunkOf c e)) = Finset.univ := by
  refine Finset.eq_univ_of_forall fun i => ?_
  have hi : (i 0).val < 8192 := (i 0).isLt
  by_cases h : (i 0).val / 4096 = cy c
  · exact Finset.mem_union_left _ (Finset.mem_filter.2 ⟨Finset.mem_univ _, h⟩)
  · obtain ⟨e, he⟩ := exists_chunk c ⟨(i 0).val / 64, by omega⟩ (by simp only; omega)
    exact Finset.mem_union_right _ (Finset.mem_biUnion.2 ⟨e, Finset.mem_univ _, Finset.mem_filter.2 ⟨Finset.mem_univ _, he.symm⟩⟩)

theorem half_disjoint (c : Dev nD) : Disjoint (halfSet (cy c)) (Finset.univ.biUnion (fun e => chunkSet (chunkOf c e))) := by
  refine Finset.disjoint_left.2 fun i hi hi' => ?_
  obtain ⟨e, -, he⟩ := Finset.mem_biUnion.1 hi'
  have h1 := (Finset.mem_filter.1 hi).2
  have h2 := (Finset.mem_filter.1 he).2
  have h3 := chunkOf_half c e
  omega

/-- Membership in a block of whole rows. -/
theorem mem_rows {o len : ℕ} {f : Fin 2 → ℕ} (hf : f = ![o, 0]) {i : Fin 2 → ℕ} (h1 : i 1 < 1024) :
    (∀ a : Fin 2, f a ≤ i a ∧ i a < f a + (![len, 1024] : Fin 2 → ℕ) a) ↔ o ≤ i 0 ∧ i 0 < o + len := by
  subst hf
  rw [Fin.forall_fin_two]
  simp only [Matrix.cons_val_zero, Matrix.cons_val_one]
  omega

theorem oRows_set {q : ℕ} (h) : (oRows ![64 * q, 0] h).view.set = chunkSet q := by
  show ((View.whole main_v1).slice _).set = _
  rw [View.set_slice_whole]
  ext i
  rw [Rect.mem_set_unit, chunkSet, Finset.mem_filter]
  refine (mem_rows (i := fun a => (i a).val) rfl (i 1).isLt).trans ?_
  simp only [Finset.mem_univ, true_and]
  omega

theorem xRows_set {q : ℕ} (h) : (xRows ![64 * q, 0] h).view.set = argSet q := by
  show ((View.whole main_arg0).slice _).set = _
  rw [View.set_slice_whole]
  ext i
  rw [Rect.mem_set_unit, argSet, Finset.mem_filter]
  refine (mem_rows (i := fun a => (i a).val) rfl (i 1).isLt).trans ?_
  simp only [Finset.mem_univ, true_and]
  omega

theorem ownM_set (d : Dev nD) : (ownM d).view.set = halfSet (cy d) := by
  show ((View.whole main_v1).slice _).set = _
  rw [View.set_slice_whole]
  ext i
  rw [Rect.mem_set_unit, halfSet, Finset.mem_filter]
  refine (mem_rows (i := fun a => (i a).val) (k0_off5_eq d) (i 1).isLt).trans ?_
  show (4096 * cy d ≤ (i 0).val ∧ (i 0).val < 4096 * cy d + 4096) ↔ (i ∈ Finset.univ ∧ (i 0).val / 4096 = cy d)
  generalize cy d = y
  simp only [Finset.mem_univ, true_and]
  omega

/-! ## The contents -/

variable (m : (ℓ : Loc nD τ sig) → Buf (Elt F) ℓ)

/-- The argument of a device, and a row and column of it. -/
def argOf (c : Dev nD) : Buf (Elt F) ((c : Thread nD τ).loc main_arg0) := m ((c : Thread nD τ).loc main_arg0)

/-- The contents the result of `c` ends with. -/
def gathered (c : Dev nD) : Buf (Elt F) ((c : Thread nD τ).loc main_v1) := fun (i : S8192x1024.Idx) =>
  argOf m (origin c ((i 0).val / 64)) (Shape.pair (d := ![4096, 1024]) ⟨(i 0).val % 4096, Nat.mod_lt _ (by decide)⟩ (i 1))

/-- An element of chunk `q` of the result is the matching element of its origin's argument. -/
theorem gathered_at (c : Dev nD) (q : ℕ) (i : S8192x1024.Idx) (x : S64x1024.Idx) (h0 : (i 0).val = 64 * q + (x 0).val) (h1 : (i 1).val = (x 1).val)
    (j : S4096x1024.Idx) (hj0 : (j 0).val = 64 * (q % 64) + (x 0).val) (hj1 : (j 1).val = (x 1).val) :
    gathered m c i = argOf m (origin c q) j := by
  have hx : (x 0).val < 64 := (x 0).isLt
  have hq : (i 0).val / 64 = q := by omega
  have hj : Shape.pair (d := ![4096, 1024]) ⟨(i 0).val % 4096, Nat.mod_lt _ (by decide)⟩ (i 1) = j := by
    funext a
    refine Fin.ext ?_
    fin_cases a
    · show (i 0).val % 4096 = (j 0).val
      omega
    · show (i 1).val = (j 1).val
      omega
  unfold gathered
  simp only
  rw [hq, hj]

/-- A copy of a chunk of the argument of device `c` to a chunk of the result that comes from `c`. -/
theorem direct_write (c c' : Dev nD) {q q' : ℕ} (h h') (fd) (hq : q' % 64 = q) (ho : origin c' q' = c) :
    ∀ i ∈ chunkSet q', (oRows ![64 * q', 0] h').view.write (Elt F) fd ((xRows ![64 * q, 0] h).view.read (Elt F) (argOf m c)) Finset.univ i
      = gathered m c' i := by
  intro i hi
  rw [← oRows_set h'] at hi
  obtain ⟨x, -, rfl⟩ := Finset.mem_map.1 hi
  rw [View.write_emb_of_mem (h := Finset.mem_univ _), View.read_apply]
  subst ho hq
  refine (gathered_at m c' q' ((oRows ![64 * q', 0] h').view.emb x) x ?_ ?_ ((xRows ![64 * (q' % 64), 0] h).view.emb x) ?_ ?_).symm
  · show 64 * q' + 1 * (x 0).val = _; omega
  · show 0 + 1 * (x 1).val = _; omega
  · show 64 * (q' % 64) + 1 * (x 0).val = _; omega
  · show 0 + 1 * (x 1).val = _; omega

/-- A copy of a chunk of the result of `c` to the same chunk of the result of `c'`. -/
theorem passed_write (c c' : Dev nD) {q : ℕ} (h h') (fd) (ho : origin c' q = origin c q) :
    ∀ i ∈ chunkSet q, (oRows ![64 * q, 0] h').view.write (Elt F) fd ((oRows ![64 * q, 0] h).view.read (Elt F) (gathered m c)) Finset.univ i
      = gathered m c' i := by
  intro i hi
  have hq := (Finset.mem_filter.1 hi).2
  rw [← oRows_set h'] at hi
  obtain ⟨x, -, rfl⟩ := Finset.mem_map.1 hi
  rw [View.write_emb_of_mem (h := Finset.mem_univ _), View.read_apply]
  show gathered m c ((oRows ![64 * q, 0] h').view.emb x) = _
  unfold gathered
  simp only
  rw [hq, ho]

/-- Copying what `src` reads of `fs` to chunk `q` of `c'` leaves there what the result of `c'` ends with. -/
def Carries (src : Memref sig .tc .hbm S64x1024 .f32) (c : Dev nD) (fs : Buf (Elt F) (src.view.loc (c : Thread nD τ))) (c' : Dev nD) (q : ℕ) : Prop :=
  ∀ (h : ∀ a : Fin 2, (![64 * q, 0] : Fin 2 → ℕ) a + S64x1024.size a ≤ S8192x1024.size a) (fd : Buf (Elt F) ((c' : Thread nD τ).loc main_v1)),
    ∀ i ∈ chunkSet q, ((oRows ![64 * q, 0] h).view.write (Elt F) fd (src.view.read (Elt F) fs) Finset.univ : S8192x1024.Idx → Elt F .f32) i = gathered m c' i

theorem carries_direct (c c' : Dev nD) {q q' : ℕ} {o : Fin 2 → ℕ} {h} (ho : o = ![64 * q, 0]) (hq : q' % 64 = q) (hc : origin c' q' = c) :
    Carries m (xRows o h) c (argOf m c) c' q' := by
  subst ho; exact fun h' fd => direct_write m c c' h h' fd hq hc

theorem carries_passed (c c' : Dev nD) {q : ℕ} {o : Fin 2 → ℕ} {h} (ho : o = ![64 * q, 0]) (hc : origin c' q = origin c q) :
    Carries m (oRows o h) c (gathered m c) c' q := by
  subst ho; exact fun h' fd => passed_write m c c' h h' fd hc

/-- The copy of the whole argument to the own half. -/
theorem own_write (c : Dev nD) (fd) :
    ∀ i ∈ halfSet (cy c), (ownM c).view.write (Elt F) fd (xM.view.read (Elt F) (argOf m c)) Finset.univ i = gathered m c i := by
  intro i hi
  have hq := (Finset.mem_filter.1 hi).2
  rw [← ownM_set c] at hi
  obtain ⟨x, -, rfl⟩ := Finset.mem_map.1 hi
  rw [View.write_emb_of_mem (h := Finset.mem_univ _), View.read_apply]
  have h0 : (((ownM c).view.emb x : S8192x1024.Idx) 0).val = 4096 * cy c + (x 0).val := by
    show k0_off5 c 0 + 1 * (x 0).val = _
    rw [k0_off5_eq]
    show 4096 * cy c + 1 * (x 0).val = _
    omega
  have h1 : (((ownM c).view.emb x : S8192x1024.Idx) 1).val = (x 1).val := by
    show k0_off5 c 1 + 1 * (x 1).val = _
    rw [k0_off5_eq]
    show 0 + 1 * (x 1).val = _
    omega
  have hx : (x 0).val < 4096 := (x 0).isLt
  have ho : origin c ((((ownM c).view.emb x : S8192x1024.Idx) 0).val / 64) = c := if_pos (by omega)
  unfold gathered
  simp only
  rw [ho]
  show argOf m c x = _
  refine congrArg (argOf m c) (funext fun a => Fin.ext ?_)
  fin_cases a
  · show (x 0).val = (((ownM c).view.emb x : S8192x1024.Idx) 0).val % 4096
    omega
  · show (x 1).val = (((ownM c).view.emb x : S8192x1024.Idx) 1).val
    omega

end Cert.Relay

end
-- ==== Proof.Schedule.lean ====
/-
# The protocol

Every device has 130 semaphores of this kernel: the barrier, one per departing copy, one per arriving copy, one for the
local copy (`Cell`). Each is used for one round. This file says who raises it by how much and what the raise hands over
(`relay`), what a device still owes its neighbours while a list of steps is left to run (`owed`), and that at every wait
all it owes is of a higher level than what it waits for (`mayWait`), so no circle of waits arises.
-/
module

public import proofs.«01_k».proof.Proof.Chunks
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The semaphores -/

/-- The semaphores of a device: the barrier, a copy's departure, a copy's arrival, the local copy. -/
inductive Cell
  | bar | send (e : Edge) | recv (e : Edge) | loc
  deriving DecidableEq

/-- Every one of them once: the scoped ones, in the order of the copies; the barrier. -/
def scopedCells : List Cell := edges.map Cell.send ++ edges.map Cell.recv ++ [.loc]
def cells : List Cell := .bar :: scopedCells

theorem mem_cells (k : Cell) : k ∈ cells := by
  unfold cells scopedCells
  cases k with
  | bar => exact List.mem_cons_self
  | send e => exact List.mem_cons_of_mem _ (List.mem_append_left _ (List.mem_append_left _ (List.mem_map_of_mem (mem_edges e))))
  | recv e => exact List.mem_cons_of_mem _ (List.mem_append_left _ (List.mem_append_right _ (List.mem_map_of_mem (mem_edges e))))
  | loc => exact List.mem_cons_of_mem _ (List.mem_append_right _ List.mem_cons_self)

instance : Fintype Cell := ⟨cells.toFinset, fun k => List.mem_toFinset.2 (mem_cells k)⟩

theorem cells_nodup : cells.Nodup := by decide +kernel

/-- The semaphore of a cell, and its cell back. -/
def Cell.sem : Cell → SemLoc sig
  | .bar => .reg barS
  | .send e => .dma (sendS e)
  | .recv e => .dma (recvS e)
  | .loc => .dma locS

def cellAt (s : SemLoc sig) : Option Cell := cells.find? fun k => k.sem = s

theorem cellAt_sem (k : Cell) : cellAt k.sem = some k := by revert k; decide +kernel

theorem sem_inj : Function.Injective Cell.sem := fun k k' h =>
  Option.some.inj ((cellAt_sem k).symm.trans ((congrArg cellAt h).trans (cellAt_sem k')))

/-- The cell of a device. -/
abbrev gcell (c : Dev nD) (k : Cell) : GSem nD τ sig := ((c : Thread nD τ), k.sem)

theorem gcell_inj {c c' : Dev nD} {k k' : Cell} (h : gcell c k = gcell c' k') : c = c' ∧ k = k' :=
  ⟨Fin.ext (congrArg (fun g : GSem nD τ sig => g.1.1.val) h), sem_inj (congrArg Prod.snd h)⟩

/-! ## Resources -/

abbrev UB : Type := URounds (GSem nD τ sig) Axis
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The amount one chunk counts for, and the amount the local copy counts for. -/
def NC : ℕ := (oRows ![64 * 0, 0] (by decide) : Memref sig .tc .hbm S64x1024 .f32).view.dmaCredit
def NL : ℕ := (oM : Memref sig .tc .hbm S8192x1024 .f32).view.ref.dmaCredit S4096x1024 .f32

theorem NC_pos : 0 < NC := View.dmaCredit_pos _ (by decide)
theorem NL_pos : 0 < NL := (ownM 0).view.dmaCredit_pos (by decide)

theorem credit_out {o : Fin 2 → ℕ} {h} : (oRows o h).view.dmaCredit = NC := rfl
theorem credit_src (d : Dev nD) (e : Edge) : (srcM d e).view.dmaCredit = NC := by cases e <;> rfl
theorem credit_dst (d : Dev nD) (e : Edge) : (dstM d e).view.dmaCredit = NC := by cases e <;> rfl
theorem credit_own (d : Dev nD) : (ownM d).view.dmaCredit = NL := rfl

variable (m : (ℓ : Loc nD τ sig) → Buf (Elt F) ℓ)

/-- A set of elements of the result of `c`, at a share, with given contents; the same of the argument, with its contents
    at the launch. -/
abbrev outPts (c : Dev nD) (S : Finset S8192x1024.Idx) (q : PosShare TreeShare) (f : Buf (Elt F) ((c : Thread nD τ).loc main_v1)) : sProp 𝕄 :=
  ((c : Thread nD τ).loc main_v1) ↦[S]{q} f
abbrev argPts (c : Dev nD) (S : Finset S4096x1024.Idx) (q : PosShare TreeShare) : sProp 𝕄 :=
  ((c : Thread nD τ).loc main_arg0) ↦[S]{q} argOf m c

theorem outPts_congr (c : Dev nD) {S : Finset S8192x1024.Idx} (q : PosShare TreeShare) {f g : Buf (Elt F) ((c : Thread nD τ).loc main_v1)}
    (h : ∀ i ∈ S, f i = g i) : (outPts c S q f : sProp 𝕄) = outPts c S q g := pointsTo_congr h

/-- The place on `c` for the copy `e`, with any contents. -/
def landing (c : Dev nD) (e : Edge) : sProp 𝕄 := iprop(∃ f, outPts c (chunkSet (chunkOf c e)) fullShare f)

/-- The place of the copy `e` on `c`, filled. -/
def filled (c : Dev nD) (q : PosShare TreeShare) (e : Edge) : sProp 𝕄 := outPts c (chunkSet (chunkOf c e)) q (gathered m c)

/-- What the copy `e` reads on its sender `d`. -/
def source (d : Dev nD) : Edge → sProp 𝕄
  | .ydir k => argPts m d (argSet (argChunk d (.ydir k))) fullShare.right
  | .ydiag k => argPts m d (argSet (argChunk d (.ydiag k))) fullShare.right
  | .xdir k => filled m d fullShare.left (.ydir k)
  | .zdir k => filled m d fullShare.right (.ydir k)
  | .xhalf j => filled m d fullShare (.zdir ⟨6 + j.val, by omega⟩)
  | .zhalf j => filled m d fullShare (.xdir ⟨11 + j.val, by omega⟩)

instance landing_storable (c : Dev nD) (e : Edge) : BI.Storable (upEmb : UEmb _ 𝕄) (landing c e) := by unfold landing; infer_instance
instance filled_storable (c : Dev nD) (q) (e : Edge) : BI.Storable (upEmb : UEmb _ 𝕄) (filled m c q e) := by unfold filled; infer_instance
instance source_storable (d : Dev nD) (e : Edge) : BI.Storable (upEmb : UEmb _ 𝕄) (source m d e) := by
  cases e <;> (unfold source; infer_instance)

/-- The copies along an axis. -/
def edgesOn : Axis → List Edge
  | .y => List.ofFn Edge.ydir ++ List.ofFn Edge.ydiag
  | .x => List.ofFn Edge.xdir ++ List.ofFn Edge.xhalf
  | .z => List.ofFn Edge.zdir ++ List.ofFn Edge.zhalf

/-- The places on `c` for the copies along `a`: what `c`'s barrier signal hands its neighbour along `a`. -/
def landings (c : Dev nD) (a : Axis) : sProp 𝕄 := bigSepL (edgesOn a) (landing c)

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact (inferInstance : BI.Storable (upEmb : UEmb _ 𝕄) iprop(emp))
  | cons i l ih => rw [bigSepL_cons']; infer_instance

instance landings_storable (c : Dev nD) (a : Axis) : BI.Storable (upEmb : UEmb _ 𝕄) (landings (F := F) c a) := by unfold landings; infer_instance

/-! ## The schedule -/

def dutiesOf : Option Cell → Finset Axis
  | some .bar => Finset.univ
  | some _ => {.y}
  | none => ∅
def amountOf' : Option Cell → ℕ
  | some .bar => 1
  | some .loc => NL
  | _ => NC
def payloadOf (c : Dev nD) (a : Axis) : Option Cell → sProp 𝕄
  | some .bar => landings (peer c a) a
  | some (.send e) => source m c e
  | some (.recv e) => filled m c fullShare e
  | some .loc => iprop(argPts m c Finset.univ fullShare.left ∗ outPts c (halfSet (cy c)) fullShare (gathered m c))
  | none => iprop(emp)

/-- One round of every cell. The barrier of `c` has a unit from each neighbour, which hands `c` the places on that
    neighbour for the copies `c` sends it. A departure hands back what the copy read, an arrival hands over the place
    filled, the local copy's end both. -/
def relay : Rounds.Schedule (GSem nD τ sig) Axis 𝕄 where
  duties g r := if r = 0 ∧ g.1.2 = .tc then dutiesOf (cellAt g.2) else ∅
  unitless _ := False
  amount g _ _ := amountOf' (cellAt g.2)
  payload g _ a := payloadOf m g.1.1 a (cellAt g.2)
  amount_pos g _ _ _ := by
    rcases cellAt g.2 with _ | _ | _ | _ | _
    · exact NC_pos
    · exact Nat.one_pos
    · exact NC_pos
    · exact NC_pos
    · exact NL_pos

instance relay_storable (g : GSem nD τ sig) (r : ℕ) (a : Axis) : BI.Storable (upEmb : UEmb _ 𝕄) ((relay (F := F) m).payload g r a) := by
  show BI.Storable upEmb (payloadOf m g.1.1 a (cellAt g.2))
  rcases cellAt g.2 with _ | _ | _ | _ | _ <;> (unfold payloadOf; infer_instance)

section Sched
variable (c : Dev nD) (k : Cell)

theorem duties_eq : (relay m).duties (gcell c k) 0 = dutiesOf (some k) := by
  dsimp only [relay]; rw [if_pos ⟨rfl, rfl⟩, cellAt_sem]
theorem duties_later (g : GSem nD τ sig) : ∀ r, 1 ≤ r → (relay m).duties g r = ∅ :=
  fun r hr => by dsimp only [relay]; rw [if_neg fun h => by omega]
theorem amount_eq (a : Axis) : (relay m).amount (gcell c k) 0 a = amountOf' (some k) := by dsimp only [relay]; rw [cellAt_sem]
theorem payload_eq (a : Axis) : (relay m).payload (gcell c k) 0 a = payloadOf m c a (some k) := by dsimp only [relay]; rw [cellAt_sem]

/-- The total amount of a cell's round. -/
def total : Cell → ℕ
  | .bar => 3
  | .loc => NL
  | _ => NC

theorem expect_eq : (relay m).expect (gcell c k) 0 = total k := by
  unfold Schedule.expect Schedule.amountOf
  rw [duties_eq, Finset.sum_congr rfl fun a _ => amount_eq m c k a]
  cases k <;> simp only [dutiesOf, amountOf', total, Finset.sum_singleton]
  rfl

/-- What a whole round hands over. -/
theorem rest_bar : bigSep ((relay m).duties (gcell c .bar) 0 \ ∅) (fun a => (relay m).payload (gcell c .bar) 0 a)
    = iprop(landings (F := F) (peer c .y) .y ∗ landings (peer c .x) .x ∗ landings (peer c .z) .z) := by
  rw [Finset.sdiff_empty, duties_eq]
  show bigSep Finset.univ _ = _
  rw [bigSep_univ_eq_bigSepL [Axis.y, .x, .z] rfl (by decide), bigSepL_cons_cons, bigSepL_cons_cons, bigSepL_singleton,
    payload_eq, payload_eq, payload_eq]
  rfl
theorem rest_one (hk : dutiesOf (some k) = {.y}) : bigSep ((relay m).duties (gcell c k) 0 \ ∅) (fun a => (relay m).payload (gcell c k) 0 a)
    = payloadOf m c .y (some k) := by
  rw [Finset.sdiff_empty, duties_eq, hk, bigSep_singleton, payload_eq]

end Sched

/-! ## Levels, and what a device owes -/

def L (g : GSem nD τ sig) : Finset Unit := if g.1.2 = .tc then {()} else ∅

theorem L_of_ne (g : GSem nD τ sig) (h : g.1.2 ≠ .tc) : L g = ∅ := if_neg h
theorem L_tc (c : Dev nD) (s : SemLoc sig) : L ((c : Thread nD τ), s) = {()} := if_pos rfl

/-- The level of a cell: departures and the local copy lowest, then the barrier, then the arrivals by the number of hops
    behind them. -/
def level : Cell → ℕ
  | .send _ | .loc => 0
  | .bar => 1
  | .recv (.ydir _) | .recv (.ydiag _) => 2
  | .recv (.xdir _) | .recv (.zdir _) => 3
  | .recv (.xhalf _) | .recv (.zhalf _) => 4

def lv (g : GSem nD τ sig) (_ : Unit) : ℕ := match cellAt g.2 with
  | some k => level k
  | none => 0

theorem lv_cell (c : Dev nD) (k : Cell) (u : Unit) : lv (gcell c k) u = level k := by unfold lv; rw [cellAt_sem]

/-- The neighbour's cell a step raises as one of the neighbour's expectations, with the axis and the amount. -/
def Step.raises : Step → Option (Axis × Cell)
  | .signal a => some (a, .bar)
  | .start e => some (e.axis, .recv e)
  | _ => none

/-- What one step pays. -/
def Step.pays (d : Dev nD) (s : Step) : CellTallies nD τ sig Unit := match s.raises with
  | some (a, k) => tallyAt (gcell (peer d a) k) () (amountOf' (some k))
  | none => 0

/-- What a device owes while the steps `l` are left. -/
def owed (d : Dev nD) : List Step → CellTallies nD τ sig Unit
  | [] => 0
  | s :: l => owed d l + s.pays d

theorem pays_pos {d : Dev nD} {s : Step} {g : GSem nD τ sig} {u : Unit} (h : 0 < s.pays d g u) :
    ∃ a k, s.raises = some (a, k) ∧ g = gcell (peer d a) k := by
  unfold Step.pays at h
  cases hs : s.raises with
  | none => rw [hs] at h; exact absurd h (Nat.lt_irrefl 0)
  | some p =>
    rw [hs] at h
    have h : 0 < (tallyAt (gcell (peer d p.1) p.2) () (amountOf' (some p.2)) : CellTallies nD τ sig Unit) g u := h
    rw [tallyAt_apply] at h
    by_cases h' : g = gcell (peer d p.1) p.2 ∧ u = ()
    · exact ⟨p.1, p.2, rfl, h'.1⟩
    · rw [if_neg h'] at h; exact absurd h (Nat.lt_irrefl 0)

theorem owed_pos {d : Dev nD} {l : List Step} {g : GSem nD τ sig} {u : Unit} (h : 0 < owed d l g u) :
    ∃ s ∈ l, ∃ a k, s.raises = some (a, k) ∧ g = gcell (peer d a) k := by
  induction l with
  | nil => exact absurd h (Nat.lt_irrefl 0)
  | cons s l ih =>
    unfold owed at h
    rw [Pi.add_apply, Finsupp.add_apply] at h
    rcases Nat.eq_zero_or_pos (owed d l g u) with h0 | h0
    · rw [h0, Nat.zero_add] at h
      exact ⟨s, List.mem_cons_self, pays_pos h⟩
    · obtain ⟨s', hs', h'⟩ := ih h0
      exact ⟨s', List.mem_cons_of_mem _ hs', h'⟩

/-- All that the steps `l` raise lies above level `b`. -/
def above (b : ℕ) (l : List Step) : Bool := l.all fun s => match s.raises with
  | some (_, k) => decide (b < level k)
  | none => true

/-- A wait on a semaphore of level at most `b` is allowed while all that is owed lies above `b`. -/
theorem mayWait (d : Dev nD) (s : SemLoc sig) (b : ℕ) (hs : lv ((d : Thread nD τ), s) () ≤ b) (l : List Step) (hl : above b l = true) :
    (levAts L lv : sProp 𝕄) ⊢ MayWait (d : Thread nD τ) s () (owed d l) := by
  refine MayOwe.of_cut (L := L) (lev := lv) b (fun p hp => by rw [Finset.mem_singleton.mp hp, L_tc]; exact Finset.mem_singleton_self _)
    (fun g u hg => ?_) (fun p hp => by rw [Finset.mem_singleton.mp hp]; exact hs) (fun g u hg => ?_)
  · obtain ⟨-, -, a, k, -, rfl⟩ := owed_pos hg
    exact Finset.mem_singleton_self _
  · obtain ⟨s', hs', a, k, hr, rfl⟩ := owed_pos hg
    rw [lv_cell]
    have := List.all_eq_true.1 hl s' hs'
    rw [hr] at this
    exact of_decide_eq_true this

end Cert.Relay

end
-- ==== Proof.Resources.lean ====
/-
# What a device holds, step by step

The pieces of memory and of the protocol a device holds between two steps are named (`Res`) and given their meaning
(`Res.holds`). Each step needs some of them and gives others (`Step.needs`, `Step.gives`). Whether a list of steps always
finds what it needs is then a matter of lists (`exec`).
-/
module

public import proofs.«01_k».proof.Proof.Schedule

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Lists of pieces -/

/-- Lists of equal pieces are equal. -/
theorem bigSepL_eq {M : Type _} [URA M] {I : Type _} {l : List I} {Φ Ψ : I → sProp M} (h : ∀ i ∈ l, Φ i = Ψ i) : bigSepL l Φ = bigSepL l Ψ :=
  BI.Entails.antisymm (bigSepL_mono fun i hi => Entails.of_eq (h i hi)) (bigSepL_mono fun i hi => Entails.of_eq (h i hi).symm)

/-- The order of a list does not matter. -/
theorem bigSepL_perm {M : Type _} [URA M] {I : Type _} {Φ : I → sProp M} {l l' : List I} (h : l.Perm l') : bigSepL l Φ = bigSepL l' Φ := by
  induction h with
  | nil => rfl
  | cons r _ ih => rw [bigSepL_cons', bigSepL_cons', ih]
  | swap r r' l =>
    have swap (P Q R : sProp M) : iprop(P ∗ Q ∗ R) ⊢ iprop(Q ∗ P ∗ R) := by
      iintro ⟨H1, H2, H3⟩
      isplitl [H2]; · iexact H2
      isplitl [H1] <;> iassumption
    rw [bigSepL_cons', bigSepL_cons', bigSepL_cons', bigSepL_cons']
    exact BI.Entails.antisymm (swap _ _ _) (swap _ _ _)
  | trans _ _ ih ih' => exact ih.trans ih'

/-- Pairs along a list. -/
theorem bigSepL_sep {M : Type _} [URA M] {I : Type _} (l : List I) (Φ Ψ : I → sProp M) :
    bigSepL l (fun i => iprop(Φ i ∗ Ψ i)) = iprop(bigSepL l Φ ∗ bigSepL l Ψ) := by
  induction l with
  | nil => exact (equiv_iff.mp emp_sep).symm
  | cons i l ih =>
    have four (P Q R S : sProp M) : iprop((P ∗ Q) ∗ R ∗ S) ⊢ iprop((P ∗ R) ∗ Q ∗ S) := by
      iintro ⟨⟨H1, H2⟩, H3, H4⟩
      isplitl [H1 H3]
      · isplitl [H1] <;> iassumption
      isplitl [H2] <;> iassumption
    rw [bigSepL_cons', bigSepL_cons', bigSepL_cons', ih]
    exact BI.Entails.antisymm (four _ _ _ _) (four _ _ _ _)

/-! ## The pieces of a device -/

/-- A piece of what a device holds. -/
inductive Res
  /-- The right to raise a neighbour's barrier; the own places to hand over with it; the own barrier, waited for or past. -/
  | barTok (a : Axis) | land (a : Axis) | barWait | barDone
  /-- A copy's right to start, its place on the neighbour, the wait for its departure before and after its start. -/
  | tok (e : Edge) | dst (e : Edge) | sendPos (e : Edge) | flying (e : Edge) | sendDone (e : Edge)
  /-- The wait for a copy's arrival, and that it is past. -/
  | recvWait (e : Edge) | recvDone (e : Edge)
  /-- Rows of the argument a copy reads; one half share of the chunk a copy has filled. -/
  | rows (e : Edge) | half (right : Bool) (e : Edge)
  /-- The local copy: the right to start it, its place, its source, its semaphore, its result. -/
  | locTok | ownAny | argLeft | locFlying | locPos | locDone | ownDone
  deriving DecidableEq

/-- The pieces holding what a copy reads. -/
def srcs : Edge → List Res
  | .ydir k => [.rows (.ydir k)]
  | .ydiag k => [.rows (.ydiag k)]
  | .xdir k => [.half false (.ydir k)]
  | .zdir k => [.half true (.ydir k)]
  | .xhalf j => [.half false (.zdir ⟨6 + j.val, by omega⟩), .half true (.zdir ⟨6 + j.val, by omega⟩)]
  | .zhalf j => [.half false (.xdir ⟨11 + j.val, by omega⟩), .half true (.xdir ⟨11 + j.val, by omega⟩)]

def Step.needs : Step → List Res
  | .signal a => [.barTok a, .land a]
  | .gather => [.barWait]
  | .start e => .tok e :: .dst e :: srcs e
  | .waitRecv e => [.recvWait e]
  | .waitSend e => [.flying e, .sendPos e]
  | .localStart => [.locTok, .ownAny, .argLeft]
  | .localWait => [.locFlying, .locPos]

def Step.gives : Step → List Res
  | .signal _ => []
  | .gather => .barDone :: ((edgesOn .y).map .dst ++ ((edgesOn .x).map .dst ++ (edgesOn .z).map .dst))
  | .start e => [.flying e]
  | .waitRecv e => [.recvDone e, .half false e, .half true e]
  | .waitSend e => .sendDone e :: srcs e
  | .localStart => [.locFlying]
  | .localWait => [.locDone, .argLeft, .ownDone]

/-- What is left to run after a wait raises only what lies above the semaphore waited for. -/
def Step.ordered : Step → List Step → Bool
  | .gather, l => above (level .bar) l
  | .waitRecv e, l => above (level (.recv e)) l
  | .waitSend e, l => above (level (.send e)) l
  | .localWait, l => above (level .loc) l
  | _, _ => true

/-- The pieces `rs` taken out of `σ`. -/
def take : List Res → List Res → Option (List Res)
  | [], σ => some σ
  | r :: rs, σ => if r ∈ σ then take rs (σ.erase r) else none

/-- What is held after the steps, if every step finds what it needs. -/
def exec : List Step → List Res → Option (List Res)
  | [], σ => some σ
  | s :: l, σ => if s.ordered l then (take s.needs σ).bind fun σ' => exec l (s.gives ++ σ') else none

/-- What a device starts with, and what it ends with. -/
def atStart : List Res :=
  ([Axis.y, .x, .z].map .barTok ++ [Axis.y, .x, .z].map .land) ++ .barWait :: .locTok :: .ownAny :: .argLeft :: .locPos ::
    (edges.map .tok ++ ((edgesOn .y).map .rows ++ (edges.map .recvWait ++ edges.map .sendPos)))
def atEnd : List Res :=
  .barDone :: .locDone :: .argLeft :: .ownDone ::
    (edges.map .sendDone ++ (edges.map .recvDone ++ ((edgesOn .y).map .rows ++ (edges.map (.half false) ++ edges.map (.half true)))))

/-! ## Their meaning -/

variable {F : FTy → Type}

local notation "𝕄" => MT nD τ sig Unit (Elt F) ℕ UU ℕ

variable (m : (ℓ : Loc nD τ sig) → Buf (Elt F) ℓ)

/-- What a piece means on device `d`. -/
def Res.holds (d : Dev nD) : Res → sProp 𝕄
  | .barTok a => dutyTok ER (gcell (peer d a) .bar) 0 a
  | .land a => landings d a
  | .barWait => iprop(atPos ER (gcell d .bar) 0 ∅ 0 ∗ cred (tallyAt (gcell d .bar) () 3))
  | .barDone => semVal (gcell d .bar) 0
  | .tok e => iprop(dutyTok ER (gcell d (.send e)) 0 .y ∗ dutyTok ER (gcell (peer d e.axis) (.recv e)) 0 .y)
  | .dst e => landing (peer d e.axis) e
  | .sendPos e => atPos ER (gcell d (.send e)) 0 ∅ 0
  | .flying e => cred (tallyAt (gcell d (.send e)) () NC)
  | .sendDone e => semVal (gcell d (.send e)) 0
  | .recvWait e => iprop(atPos ER (gcell d (.recv e)) 0 ∅ 0 ∗ cred (tallyAt (gcell d (.recv e)) () NC))
  | .recvDone e => semVal (gcell d (.recv e)) 0
  | .rows e => argPts m d (argSet (argChunk d e)) fullShare.right
  | .half b e => filled m d (if b then fullShare.right else fullShare.left) e
  | .locTok => dutyTok ER (gcell d .loc) 0 .y
  | .ownAny => iprop(∃ f, outPts d (halfSet (cy d)) fullShare f)
  | .argLeft => argPts m d Finset.univ fullShare.left
  | .locFlying => cred (tallyAt (gcell d .loc) () NL)
  | .locPos => atPos ER (gcell d .loc) 0 ∅ 0
  | .locDone => semVal (gcell d .loc) 0
  | .ownDone => outPts d (halfSet (cy d)) fullShare (gathered m d)

/-- A list of pieces, held together. -/
abbrev held (d : Dev nD) (σ : List Res) : sProp 𝕄 := bigSepL σ (Res.holds m d)

/-- The order of the pieces does not matter. -/
theorem held_perm (d : Dev nD) {σ σ' : List Res} (h : σ.Perm σ') : (held m d σ : sProp 𝕄) = held m d σ' := bigSepL_perm h

theorem assoc (P Q R : sProp 𝕄) : iprop(P ∗ Q ∗ R) = iprop((P ∗ Q) ∗ R) := by
  have h1 : iprop(P ∗ Q ∗ R) ⊢ iprop((P ∗ Q) ∗ R) := by
    iintro ⟨H1, H2, H3⟩
    isplitr [H3]
    · isplitl [H1] <;> iassumption
    · iexact H3
  have h2 : iprop((P ∗ Q) ∗ R) ⊢ iprop(P ∗ Q ∗ R) := by
    iintro ⟨⟨H1, H2⟩, H3⟩
    isplitl [H1]; · iexact H1
    isplitl [H2] <;> iassumption
  exact BI.Entails.antisymm h1 h2

theorem take_holds (d : Dev nD) {rs σ σ' : List Res} (h : take rs σ = some σ') :
    (held m d σ : sProp 𝕄) = iprop(held m d rs ∗ held m d σ') := by
  induction rs generalizing σ with
  | nil =>
    cases h
    exact (BI.equiv_iff.mp emp_sep).symm
  | cons r rs ih =>
    unfold take at h
    split at h
    · rename_i hr
      rw [held_perm m d (List.perm_cons_erase hr)]
      unfold held at ih ⊢
      rw [bigSepL_cons', bigSepL_cons', ih h]
      exact assoc _ _ _
    · cases h

/-- What a copy reads, from its pieces. -/
theorem srcs_holds (d : Dev nD) (e : Edge) : (held m d (srcs e) : sProp 𝕄) = source m d e := by
  have join (e : Edge) : iprop(filled m d fullShare.left e ∗ filled m d fullShare.right e) = (filled m d fullShare e : sProp 𝕄) :=
    BI.Entails.antisymm (pointsTo_share (PosShare.mem_left_op_right _)).2 (pointsTo_share (PosShare.mem_left_op_right _)).1
  cases e with
  | xhalf j => exact join _
  | zhalf j => exact join _
  | _ => rfl

/-- A chunk at the full share is its two halves. -/
theorem filled_halves (d : Dev nD) (e : Edge) : (filled m d fullShare e : sProp 𝕄) = iprop(Res.holds m d (.half false e) ∗ Res.holds m d (.half true e)) :=
  BI.Entails.antisymm (pointsTo_share (PosShare.mem_left_op_right fullShare)).1 (pointsTo_share (PosShare.mem_left_op_right fullShare)).2

theorem edgesOn_axis {a : Axis} {e : Edge} (h : e ∈ edgesOn a) : e.axis = a := by
  cases a <;> (rcases List.mem_append.1 h with h | h <;> (obtain ⟨k, rfl⟩ := List.mem_ofFn.1 h; rfl))

end Cert.Relay

end
-- ==== Proof.Arrays.lean ====
/-
# The two arrays, in pieces and whole

A device's argument and result, whole, are the pieces its run starts from (`arg_pieces`, `out_open`), and the pieces its run
ends with are the result, gathered (`out_close`).
-/
module

public import proofs.«01_k».proof.Proof.Resources

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ) (d : Dev nD)

/-! ## Any buffer -/

section Any

abbrev sameIdx (ℓ : Loc nD τ sig) : DecidableEq (Idx ℓ) := inferInstance

variable {ℓ : Loc nD τ sig} {f : Buf (Elt F) ℓ} {q : PosShare TreeShare}

theorem pts_halves {S : Finset (Idx ℓ)} : (ℓ ↦[S]{fullShare} f : sProp 𝕄) = iprop((ℓ ↦[S]{fullShare.left} f) ∗ ℓ ↦[S]{fullShare.right} f) :=
  BI.Entails.antisymm (pointsTo_share (PosShare.mem_left_op_right fullShare)).1 (pointsTo_share (PosShare.mem_left_op_right fullShare)).2

theorem pts_part {I S : Finset (Idx ℓ)} {D : DecidableEq (Idx ℓ)} (h : I ⊆ S) : (ℓ ↦[S]{q} f : sProp 𝕄) = iprop((ℓ ↦[I]{q} f) ∗ ℓ ↦[S \ I]{q} f) := by
  obtain rfl : D = sameIdx ℓ := Subsingleton.elim _ _
  exact BI.Entails.antisymm (pointsTo_split_subset h).1 (pointsTo_split_subset h).2

theorem pts_union {I S : Finset (Idx ℓ)} {D : DecidableEq (Idx ℓ)} (h : Disjoint I S) : (ℓ ↦[I ∪ S]{q} f : sProp 𝕄) = iprop((ℓ ↦[I]{q} f) ∗ ℓ ↦[S]{q} f) := by
  obtain rfl : D = sameIdx ℓ := Subsingleton.elim _ _
  exact BI.Entails.antisymm (pointsTo_union h).1 (pointsTo_union h).2

theorem pts_list {T : Type} [DecidableEq T] (S : Finset T) (l : List T) (hS : S = l.toFinset) (hl : l.Nodup) (K : T → Finset (Idx ℓ)) {D : DecidableEq (Idx ℓ)}
    (h : ∀ t t', t ≠ t' → Disjoint (K t) (K t')) :
    (ℓ ↦[S.biUnion K]{q} f : sProp 𝕄) = bigSepL l fun t => ℓ ↦[K t]{q} f := by
  obtain rfl : D = sameIdx ℓ := Subsingleton.elim _ _
  rw [pointsTo_biUnion S K fun t _ t' _ => h t t', bigSep_eq_bigSepL_of_eq l hS hl]

end Any

/-! ## The argument -/

/-- The rows of the argument that the copies along `y` read. -/
def readRows : Finset S4096x1024.Idx := (edgesOn .y).toFinset.biUnion fun e => argSet (argChunk d e)

/-- The right half share of the other rows, which nothing reads. -/
def aside : sProp 𝕄 := argPts m d (Finset.univ \ readRows d) fullShare.right

theorem edgesOn_nodup (a : Axis) : (edgesOn a).Nodup := by revert a; decide +kernel

theorem rows_pieces : (argPts m d (readRows d) fullShare.right : sProp 𝕄) = bigSepL (edgesOn .y) fun e => argPts m d (argSet (argChunk d e)) fullShare.right := by
  unfold readRows
  exact pts_list _ (edgesOn .y) rfl (edgesOn_nodup .y) _ fun e e' hne => argSet_disjoint fun h => hne (argChunk_inj d h)

theorem arg_pieces : (argPts m d Finset.univ fullShare : sProp 𝕄)
    = iprop(Res.holds m d .argLeft ∗ held m d ((edgesOn .y).map .rows) ∗ aside m d) := by
  have h3 : held m d ((edgesOn .y).map .rows) = (argPts m d (readRows d) fullShare.right : sProp 𝕄) := by
    rw [rows_pieces]
    exact bigSepL_map _ _ _
  have h2 : (argPts m d Finset.univ fullShare.right : sProp 𝕄) = iprop(argPts m d (readRows d) fullShare.right ∗ aside m d) :=
    pts_part (Finset.subset_univ _)
  rw [h3, ← h2]
  exact pts_halves

/-! ## The result -/

/-- Any contents of the result, in the pieces the local copy and the other copies fill. -/
theorem out_pieces (f : Buf (Elt F) ((d : Thread nD τ).loc main_v1)) : (outPts d Finset.univ fullShare f : sProp 𝕄)
    = iprop(outPts d (halfSet (cy d)) fullShare f ∗ bigSepL edges fun e => outPts d (chunkSet (chunkOf d e)) fullShare f) := by
  have h1 : (outPts d (halfSet (cy d) ∪ Finset.univ.biUnion (fun e => chunkSet (chunkOf d e))) fullShare f : sProp 𝕄)
      = iprop(outPts d (halfSet (cy d)) fullShare f ∗ outPts d (Finset.univ.biUnion (fun e => chunkSet (chunkOf d e))) fullShare f) :=
    pts_union (half_disjoint d)
  have h2 : (outPts d (Finset.univ.biUnion (fun e => chunkSet (chunkOf d e))) fullShare f : sProp 𝕄)
      = bigSepL edges fun e => outPts d (chunkSet (chunkOf d e)) fullShare f :=
    pts_list _ edges rfl edges_nodup _ fun e e' hne => chunkSet_disjoint fun h => hne (chunkOf_inj d h)
  rw [← h2, ← h1, cover]

/-- The copies, by axis. -/
theorem edges_by_axis : edges.Perm (edgesOn .y ++ (edgesOn .x ++ edgesOn .z)) := by decide +kernel

theorem landings_all : (bigSepL edges (landing d) : sProp 𝕄) = iprop(landings d .y ∗ landings d .x ∗ landings d .z) := by
  unfold landings
  rw [← bigSepL_append, ← bigSepL_append]
  exact bigSepL_perm edges_by_axis

theorem landing_of (e : Edge) (f : Buf (Elt F) ((d : Thread nD τ).loc main_v1)) : (outPts d (chunkSet (chunkOf d e)) fullShare f : sProp 𝕄) ⊢ landing d e := by
  unfold landing
  iintro H; iexists f; iexact H

theorem out_open (f : Buf (Elt F) ((d : Thread nD τ).loc main_v1)) :
    (outPts d Finset.univ fullShare f : sProp 𝕄) ⊢ iprop((∃ f, outPts d (halfSet (cy d)) fullShare f) ∗ landings d .y ∗ landings d .x ∗ landings d .z) := by
  have h1 : (bigSepL edges fun e => outPts d (chunkSet (chunkOf d e)) fullShare f : sProp 𝕄) ⊢ bigSepL edges (landing d) :=
    bigSepL_mono fun e _ => landing_of d e f
  rw [out_pieces, ← landings_all]
  iintro ⟨H1, H2⟩
  isplitl [H1]
  · iexists f; iexact H1
  · iapply h1; iexact H2

theorem out_close : iprop(Res.holds m d .ownDone ∗ held m d (edges.map (.half false)) ∗ held m d (edges.map (.half true)))
    = (outPts d Finset.univ fullShare (gathered m d) : sProp 𝕄) := by
  have h : (bigSepL edges fun e => outPts d (chunkSet (chunkOf d e)) fullShare (gathered m d) : sProp 𝕄)
      = iprop(held m d (edges.map (.half false)) ∗ held m d (edges.map (.half true))) := by
    unfold held
    rw [bigSepL_map, bigSepL_map, ← bigSepL_sep]
    exact bigSepL_eq fun e _ => filled_halves m d e
  rw [out_pieces, h]
  rfl

end Cert.Relay

end
-- ==== Proof.Ends.lean ====
/-
# From the launch's holdings to the run's, and back

What the launch deals a device, sorted into the pieces the run starts from (`start_held`); the pieces it ends with, sorted
into what the launch takes back (`end_held`).
-/
module

public import proofs.«01_k».proof.Proof.Arrays
public import Idealize.ShloMosaic.Lib.Pipeline.Launch

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ) (d : Dev nD)

/-! ## The positions and the rights -/

/-- The scoped semaphores: the local copy's, the departures, the arrivals. -/
abbrev Own : Type := Option (Bool × Edge)

def Own.cell : Own → Cell
  | none => .loc
  | some (false, e) => .send e
  | some (true, e) => .recv e

/-- Every one of them, listed. -/
def owns : List Own := none :: (edges.map (fun e => some (false, e)) ++ edges.map (fun e => some (true, e)))

theorem mem_owns (o : Own) : o ∈ owns := by
  unfold owns
  rcases o with _ | ⟨_ | _, e⟩
  · exact List.mem_cons_self
  · exact List.mem_cons_of_mem _ (List.mem_append_left _ (List.mem_map_of_mem (mem_edges e)))
  · exact List.mem_cons_of_mem _ (List.mem_append_right _ (List.mem_map_of_mem (mem_edges e)))

theorem owns_nodup : owns.Nodup := by decide +kernel

theorem owns_univ : (Finset.univ : Finset Own) = owns.toFinset := Finset.ext fun o => by
  simp only [Finset.mem_univ, List.mem_toFinset, mem_owns]

/-- Something of every own cell: the local copy's, each departure's, each arrival's. -/
theorem owns_split (Φ : Own → sProp 𝕄) : bigSep Finset.univ Φ
    = iprop(Φ none ∗ (bigSepL edges fun e => Φ (some (false, e))) ∗ bigSepL edges fun e => Φ (some (true, e))) := by
  rw [bigSep_univ_eq_bigSepL owns owns_univ owns_nodup]
  unfold owns
  rw [bigSepL_cons', bigSepL_append, bigSepL_map, bigSepL_map]

/-- Something of every cell. -/
theorem cells_split (Φ : Cell → sProp 𝕄) : bigSep Finset.univ Φ
    = iprop(Φ .bar ∗ ((bigSepL edges fun e => Φ (.send e)) ∗ bigSepL edges fun e => Φ (.recv e)) ∗ Φ .loc) := by
  rw [bigSep_univ_eq_bigSepL cells rfl cells_nodup]
  unfold cells scopedCells
  rw [bigSepL_cons', bigSepL_append, bigSepL_append, bigSepL_map, bigSepL_map, bigSepL_singleton]

/-- A right to raise a cell: a neighbour's barrier, or a cell of a copy. -/
abbrev Pay : Type := Axis ⊕ Own

def Pay.cell : Pay → Cell
  | .inl _ => .bar
  | .inr o => o.cell

def Pay.duty : Pay → Axis
  | .inl a => a
  | .inr _ => .y

/-- Whose cell a device raises with a right: a neighbour's barrier and arrivals, the own others. -/
def Pay.turn : Pay → (Dev nD ≃ Dev nD)
  | .inl a => peerEquiv a
  | .inr (some (true, e)) => peerEquiv e.axis
  | .inr _ => Equiv.refl _

/-- The rights a device raises with. -/
def rights : sProp 𝕄 := bigSep Finset.univ fun p : Pay => dutyTok ER (gcell (p.turn d) p.cell) 0 p.duty

/-- Its positions. -/
def positions : sProp 𝕄 := bigSep Finset.univ fun k : Cell => atPos ER (gcell d k) 0 ∅ 0

/-- The credit for what the others raise on it. -/
def credits : sProp 𝕄 := iprop(cred (tallyAt (gcell d .bar) () 3) ∗ bigSepL edges fun e => cred (tallyAt (gcell d (.recv e)) () NC))

theorem axes_split (Φ : Axis → sProp 𝕄) : bigSep Finset.univ Φ = bigSepL [Axis.y, .x, .z] Φ :=
  bigSep_univ_eq_bigSepL [Axis.y, .x, .z] rfl (by decide) Φ

theorem rights_held : (rights d : sProp 𝕄)
    = iprop(held m d ([Axis.y, .x, .z].map .barTok) ∗ Res.holds m d .locTok ∗ held m d (edges.map .tok)) := by
  unfold rights held
  rw [bigSep_univ_sum, axes_split, owns_split, bigSepL_map, bigSepL_map]
  show iprop(_ ∗ _ ∗ (bigSepL edges fun e => dutyTok ER (gcell d (.send e)) 0 .y) ∗ (bigSepL edges fun e => dutyTok ER (gcell (peer d e.axis) (.recv e)) 0 .y))
    = iprop(_ ∗ _ ∗ bigSepL edges fun e => iprop(dutyTok ER (gcell d (.send e)) 0 .y ∗ dutyTok ER (gcell (peer d e.axis) (.recv e)) 0 .y))
  rw [bigSepL_sep]
  rfl

theorem waits_held : iprop(positions d ∗ credits d)
    ⊢ iprop(Res.holds m d .barWait ∗ Res.holds m d .locPos ∗ held m d (edges.map .recvWait) ∗ held m d (edges.map .sendPos)) := by
  have h1 : (held m d (edges.map .recvWait) : sProp 𝕄)
      = iprop((bigSepL edges fun e => atPos ER (gcell d (.recv e)) 0 ∅ 0) ∗ bigSepL edges fun e => cred (tallyAt (gcell d (.recv e)) () NC)) :=
    (bigSepL_map _ _ _).trans (bigSepL_sep _ _ _)
  have h2 : (held m d (edges.map .sendPos) : sProp 𝕄) = bigSepL edges fun e => atPos ER (gcell d (.send e)) 0 ∅ 0 := bigSepL_map _ _ _
  have h3 : (Res.holds m d .barWait : sProp 𝕄) = iprop(atPos ER (gcell d .bar) 0 ∅ 0 ∗ cred (tallyAt (gcell d .bar) () 3)) := rfl
  have h4 : (Res.holds m d .locPos : sProp 𝕄) = atPos ER (gcell d .loc) 0 ∅ 0 := rfl
  unfold positions credits
  rw [cells_split, h1, h2, h3, h4]
  iintro ⟨⟨HB, ⟨HS, HR⟩, HL⟩, HcB, HcR⟩
  isplitl [HB HcB]
  · isplitl [HB] <;> iassumption
  isplitl [HL]; · iexact HL
  isplitl [HR HcR]
  · isplitl [HR] <;> iassumption
  iexact HS

/-! ## Start and end -/

/-- What a run starts from. -/
theorem start_held (f : Buf (Elt F) ((d : Thread nD τ).loc main_v1)) :
    iprop((rights d ∗ positions d ∗ credits d) ∗ argPts m d Finset.univ fullShare ∗ outPts d Finset.univ fullShare f) ⊢ iprop(held m d atStart ∗ aside m d) := by
  have hl : (held m d ([Axis.y, .x, .z].map .land) : sProp 𝕄) = iprop(landings d .y ∗ landings d .x ∗ landings d .z) := rfl
  have ho : (Res.holds m d .ownAny : sProp 𝕄) = iprop(∃ f, outPts d (halfSet (cy d)) fullShare f) := rfl
  have hs : (held m d atStart : sProp 𝕄)
      = iprop((held m d ([Axis.y, .x, .z].map .barTok) ∗ held m d ([Axis.y, .x, .z].map .land)) ∗ Res.holds m d .barWait ∗ Res.holds m d .locTok ∗ Res.holds m d .ownAny
        ∗ Res.holds m d .argLeft ∗ Res.holds m d .locPos ∗ held m d (edges.map .tok) ∗ held m d ((edgesOn .y).map .rows) ∗ held m d (edges.map .recvWait)
        ∗ held m d (edges.map .sendPos)) := by
    unfold held atStart
    rw [bigSepL_append, bigSepL_append, bigSepL_cons', bigSepL_cons', bigSepL_cons', bigSepL_cons', bigSepL_cons', bigSepL_append, bigSepL_append, bigSepL_append]
  have hw := waits_held m d
  have hp := out_open d f
  rw [rights_held m, arg_pieces, hs]
  rw [← ho, ← hl] at hp
  iintro ⟨⟨⟨H1, H2, H3⟩, HW⟩, ⟨H4, H5, H6⟩, HO⟩
  ihave HW' := hw $$ HW
  icases HW' with ⟨W1, W2, W3, W4⟩
  ihave HO' := hp $$ HO
  icases HO' with ⟨O1, O2⟩
  isplitr [H6]
  · isplitl [H1 O2]
    · isplitl [H1] <;> iassumption
    isplitl [W1]; · iexact W1
    isplitl [H2]; · iexact H2
    isplitl [O1]; · iexact O1
    isplitl [H4]; · iexact H4
    isplitl [W2]; · iexact W2
    isplitl [H3]; · iexact H3
    isplitl [H5]; · iexact H5
    isplitl [W3] <;> iassumption
  · iexact H6

/-- What a run ends with. -/
theorem end_held : iprop(held m d atEnd ∗ aside m d)
    ⊢ iprop((semVal (gcell d .bar) 0 ∗ bigSep Finset.univ fun o : Own => semVal (gcell d o.cell) 0)
      ∗ argPts m d Finset.univ fullShare ∗ outPts d Finset.univ fullShare (gathered m d)) := by
  have h1 : (held m d (edges.map .sendDone) : sProp 𝕄) = bigSepL edges fun e => semVal (gcell d (.send e)) 0 := bigSepL_map _ _ _
  have h2 : (held m d (edges.map .recvDone) : sProp 𝕄) = bigSepL edges fun e => semVal (gcell d (.recv e)) 0 := bigSepL_map _ _ _
  have h3 : (Res.holds m d .barDone : sProp 𝕄) = semVal (gcell d .bar) 0 := rfl
  have h4 : (Res.holds m d .locDone : sProp 𝕄) = semVal (gcell d .loc) 0 := rfl
  have he : (held m d atEnd : sProp 𝕄)
      = iprop(Res.holds m d .barDone ∗ Res.holds m d .locDone ∗ Res.holds m d .argLeft ∗ Res.holds m d .ownDone
        ∗ held m d (edges.map .sendDone) ∗ held m d (edges.map .recvDone) ∗ held m d ((edgesOn .y).map .rows)
        ∗ held m d (edges.map (.half false)) ∗ held m d (edges.map (.half true))) := by
    unfold held atEnd
    rw [bigSepL_cons', bigSepL_cons', bigSepL_cons', bigSepL_cons', bigSepL_append, bigSepL_append, bigSepL_append, bigSepL_append]
  have h5 : (bigSep Finset.univ fun o : Own => semVal (gcell d o.cell) 0 : sProp 𝕄)
      = iprop(semVal (gcell d .loc) 0 ∗ (bigSepL edges fun e => semVal (gcell d (.send e)) 0) ∗ bigSepL edges fun e => semVal (gcell d (.recv e)) 0) :=
    owns_split _
  rw [he, h1, h2, h3, h4, h5, arg_pieces, ← out_close]
  iintro ⟨⟨H1, H2, H3, H4, H5, H6, H7, H8, H9⟩, HA⟩
  isplitl [H1 H2 H5 H6]
  · isplitl [H1]; · iexact H1
    isplitl [H2]; · iexact H2
    isplitl [H5] <;> iassumption
  isplitl [H3 H7 HA]
  · isplitl [H3]; · iexact H3
    isplitl [H7] <;> iassumption
  isplitl [H4]; · iexact H4
  isplitl [H8] <;> iassumption

end Cert.Relay

end
-- ==== Proof.Credits.lean ====
/-
# The credit of the launch

What all devices together raise on one cell, counted along the steps, is what its owner waits for.
-/
module

public import proofs.«01_k».proof.Proof.Ends

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ) (d : Dev nD)

/-- How often a step raises the cell `k` of a neighbour. -/
def Step.adds (k : Cell) (s : Step) : ℕ := match s.raises with
  | some (_, k') => if k' = k then 1 else 0
  | none => 0

theorem gcell_eq {c c' : Dev nD} {k k' : Cell} (hk : k' = k) (a : Axis) : (gcell c k = gcell (peer c' a) k') ↔ c' = peer c a := by
  subst hk
  constructor
  · intro h
    rw [(gcell_inj h).1, peer_peer]
  · rintro rfl
    rw [peer_peer]

/-- A step raises the cell `k` of a device once, over all the devices that run it, or never. -/
theorem pays_sum (c : Dev nD) (k : Cell) (s : Step) : ∑ c', s.pays c' (gcell c k) () = s.adds k * amountOf' (some k) := by
  unfold Step.pays Step.adds
  cases hs : s.raises with
  | none => simp only [Pi.zero_apply, Finsupp.zero_apply, Finset.sum_const_zero, Nat.zero_mul]
  | some p =>
    obtain ⟨a, k'⟩ := p
    simp only [tallyAt_apply, and_true]
    by_cases hk : k' = k
    · rw [if_pos hk, Nat.one_mul, Finset.sum_congr rfl fun c' _ => if_congr (gcell_eq hk a) rfl rfl, Finset.sum_ite_eq' Finset.univ (peer c a),
        if_pos (Finset.mem_univ _), hk]
    · rw [if_neg hk, Nat.zero_mul]
      exact Finset.sum_eq_zero fun c' _ => if_neg fun h => hk (gcell_inj h).2.symm

theorem owed_sum (c : Dev nD) (k : Cell) (l : List Step) :
    ∑ c', owed c' l (gcell c k) () = (l.map (Step.adds k)).sum * amountOf' (some k) := by
  induction l with
  | nil =>
    rw [List.map_nil, List.sum_nil, Nat.zero_mul]
    exact Finset.sum_eq_zero fun _ _ => rfl
  | cons s l ih =>
    rw [List.map_cons, List.sum_cons, Nat.add_mul, ← pays_sum c, ← ih, Nat.add_comm, ← Finset.sum_add_distrib]
    rfl

theorem adds_bar : (steps.map (Step.adds .bar)).sum = 3 := by decide +kernel
theorem adds_recv (e : Edge) : (steps.map (Step.adds (.recv e))).sum = 1 := by revert e; decide +kernel

/-- What a device owes at the launch: all that its steps raise. -/
def O₀ (c : Dev nD) : CellTallies nD τ sig Unit := owed c steps

theorem launch_cell (c : Dev nD) (k : Cell) (n : ℕ) (h : (steps.map (Step.adds k)).sum * amountOf' (some k) = n) :
    tallyOn (gcell c k) (launchCredit (Pipeline.owing O₀) 0 (gcell c k)) = (tallyAt (gcell c k) () n : CellTallies nD τ sig Unit) := by
  unfold tallyAt
  refine congrArg _ (Finsupp.ext fun u => ?_)
  cases u
  rw [Pipeline.launchCredit_owing, Finsupp.single_eq_same]
  exact (owed_sum c k steps).trans h

/-- Cells whose credit a device waits with. -/
def credited : List Cell := .bar :: edges.map .recv

theorem credits_intro : (Pipeline.launchCred O₀ d : sProp 𝕄) ⊢ credits d := by
  have hsub : (bigSep Finset.univ fun s : SemLoc sig => cred (tallyOn ((d : Thread nD τ), s) (launchCredit (Pipeline.owing O₀) 0 ((d : Thread nD τ), s))) : sProp 𝕄)
      ⊢ bigSep (credited.toFinset.map ⟨Cell.sem, sem_inj⟩) fun s => cred (tallyOn ((d : Thread nD τ), s) (launchCredit (Pipeline.owing O₀) 0 ((d : Thread nD τ), s))) :=
    bigSep_subset (Finset.subset_univ _)
  refine BIBase.Entails.trans hsub (Entails.of_eq ?_)
  rw [bigSep_map, bigSep_eq_bigSepL_of_eq credited rfl (by decide +kernel)]
  unfold credited credits
  rw [bigSepL_cons', bigSepL_map]
  have h1 := launch_cell d .bar 3 (by rw [adds_bar]; rfl)
  have h2 (e : Edge) := launch_cell d (.recv e) NC (by rw [adds_recv, Nat.one_mul]; rfl)
  show iprop(cred (tallyOn (gcell d .bar) (launchCredit (Pipeline.owing O₀) 0 (gcell d .bar)))
      ∗ bigSepL edges fun e => cred (tallyOn (gcell d (.recv e)) (launchCredit (Pipeline.owing O₀) 0 (gcell d (.recv e))))) = _
  rw [h1]
  exact congrArg _ (bigSepL_eq fun e _ => by rw [h2 e])

end Cert.Relay

end
-- ==== Proof.Run.lean ====
/-
# Signals and starts

The rules of the signals and of the starts, each from what the step needs to what it gives.
-/
module

public import proofs.«01_k».proof.Proof.Resources

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- What holds throughout: every cell of every device has its invariant and is at its round, and the levels. -/
def context (K : Dev nD × Cell → ℕ) : sProp 𝕄 :=
  iprop((bigSep Finset.univ fun ck : Dev nD × Cell => cellInv ER (relay m) (K ck) (gcell ck.1 ck.2))
    ∗ (bigSep Finset.univ fun ck : Dev nD × Cell => reached ER (gcell ck.1 ck.2) 0) ∗ levAts L lv)

instance context_persistent (K : Dev nD × Cell → ℕ) : BI.Persistent (context m K) := by unfold context; infer_instance

variable (K : Dev nD × Cell → ℕ)

theorem context_inv (c : Dev nD) (k : Cell) : (context m K : sProp 𝕄) ⊢ cellInv ER (relay m) (K (c, k)) (gcell c k) := by
  have h : (bigSep Finset.univ fun ck : Dev nD × Cell => (cellInv ER (relay m) (K ck) (gcell ck.1 ck.2) : sProp 𝕄))
    ⊢ cellInv ER (relay m) (K (c, k)) (gcell c k) := bigSep_elim (Finset.mem_univ (c, k))
  unfold context
  iintro ⟨H, -, -⟩
  iapply h; iexact H

theorem context_reached (c : Dev nD) (k : Cell) : (context m K : sProp 𝕄) ⊢ reached ER (gcell c k) 0 := by
  have h : (bigSep Finset.univ fun ck : Dev nD × Cell => (reached ER (gcell ck.1 ck.2) 0 : sProp 𝕄)) ⊢ reached ER (gcell c k) 0 :=
    bigSep_elim (Finset.mem_univ (c, k))
  unfold context
  iintro ⟨-, H, -⟩
  iapply h; iexact H

theorem context_levels : (context m K : sProp 𝕄) ⊢ levAts L lv := by
  unfold context
  iintro ⟨-, -, H⟩
  iexact H

variable (d : Dev nD)

/-- Running a program on device `d`. -/
abbrev runs (p : Prog (TpuEff nD τ sig (Elt F) Λ₀ .tc) PUnit) (Q : PUnit → sProp 𝕄) : sProp 𝕄 :=
  wp frame (wpE (defs₀ (F := F)) 𝒱₀ (d : Thread nD τ) none) Set.univ p Q

variable {k : PUnit.{1} → Prog (TpuEff nD τ sig (Elt F) Λ₀ .tc) PUnit}

/-- A signal hands the neighbour its places on this device. -/
theorem run_signal (a : Axis) (l : List Step) (W : Waits sig Unit) {Z : PUnit.{1} → sProp 𝕄} :
    iprop(context m K ∗ held m d (Step.signal a).needs ∗ owes (d : Thread nD τ) (owed d (.signal a :: l)) W)
      ⊢ iprop((owes (d : Thread nD τ) (owed d l) W -∗ runs d (k ⟨⟩) Z) -∗ runs d (.op ((Step.signal a).op d) k) Z) := by
  have hpre : iprop(context m K ∗ held m d (Step.signal a).needs ∗ owes (d : Thread nD τ) (owed d (.signal a :: l)) W)
      ⊢ iprop(cellInv ER (relay m) (K (peer d a, .bar)) (gcell (peer d a) .bar) ∗ owes (d : Thread nD τ) (owed d (.signal a :: l)) W
        ∗ dutyTok ER (gcell (peer d a) .bar) 0 a ∗ (relay m).payload (gcell (peer d a) .bar) 0 a ∗ reached ER (gcell (peer d a) .bar) 0) := by
    rw [payload_eq]
    unfold payloadOf
    rw [peer_peer]
    show iprop(context m K ∗ (dutyTok ER (gcell (peer d a) .bar) 0 a ∗ landings d a) ∗ _) ⊢ _
    iintro ⟨#HC, ⟨Ht, Hl⟩, HO⟩
    isplitr; · iapply (context_inv m K (peer d a) .bar); iexact HC
    isplitl [HO]; · iexact HO
    isplitl [Ht]; · iexact Ht
    isplitl [Hl]; · iexact Hl
    iapply (context_reached m K (peer d a) .bar); iexact HC
  have hd : a ∈ (relay m).duties (gcell (peer d a) .bar) 0 := by rw [duties_eq]; exact Finset.mem_univ _
  exact hpre.trans (Rounds.wp_signal 𝒱₀ ER (relay m) (d : Thread nD τ) none (dst := (peer d a : Thread nD τ)) (sem := barS)
    (κ := K (peer d a, .bar)) (d := a) (r := 0) (k' := 1) hd (amount_eq m (peer d a) .bar a) () (owed d l) rfl (Topo.routes_tc _ _))

/-- A start, for any source and place, when what is read is what the place ends with. -/
theorem run_start_at (e : Edge) (l : List Step) (W : Waits sig Unit) {Z : PUnit.{1} → sProp 𝕄}
    {src dst : Memref sig .tc .hbm S64x1024 .f32} {q : PosShare TreeShare} (fs : Buf (Elt F) (src.view.loc (d : Thread nD τ)))
    {hsc : dst.view.ref.isScScratch = false} {h1 h2 h3} (hN : dst.view.dmaCredit = NC)
    (hsrc : source m d e = (src.view.loc (d : Thread nD τ) ↦[src.view.set]{q} fs))
    (hland : (landing (peer d e.axis) e : sProp 𝕄) ⊢ iprop(∃ fd, dst.view.loc ((peer d e.axis) : Thread nD τ) ↦[dst.view.set]{fullShare} fd))
    (hfill : ∀ fd, (dst.view.loc ((peer d e.axis) : Thread nD τ) ↦[dst.view.set]{fullShare} (dst.view.write (Elt F) fd (src.view.read (Elt F) fs) Finset.univ))
      ⊢ filled m (peer d e.axis) fullShare e) :
    iprop(context m K ∗ held m d (Step.start e).needs ∗ owes (d : Thread nD τ) (owed d (.start e :: l)) W)
      ⊢ iprop(((held m d (Step.start e).gives ∗ owes (d : Thread nD τ) (owed d l) W) -∗ runs d (k ⟨⟩) Z)
          -∗ runs d (.op (.enqueueDma src (.remote (Dev.tc (peer d e.axis)) dst (.dma (sendS e)) hsc) (.dma (recvS e)) h1 h2 h3) k) Z) := by
  have hneeds : (held m d (Step.start e).needs : sProp 𝕄) = iprop((dutyTok ER (gcell d (.send e)) 0 .y ∗ dutyTok ER (gcell (peer d e.axis) (.recv e)) 0 .y)
      ∗ landing (peer d e.axis) e ∗ source m d e) := by
    unfold held Step.needs
    rw [bigSepL_cons', bigSepL_cons', show bigSepL (srcs e) (Res.holds m d) = source m d e from srcs_holds m d e]
    rfl
  have howed : owed d (.start e :: l) = owed d l + tallyAt (gcell (peer d e.axis) (.recv e)) () NC := rfl
  generalize peer d e.axis = c' at *
  have hd1 : Axis.y ∈ (relay m).duties (gcell d (.send e)) 0 := by rw [duties_eq]; exact Finset.mem_singleton_self _
  have hd2 : Axis.y ∈ (relay m).duties (gcell c' (.recv e)) 0 := by rw [duties_eq]; exact Finset.mem_singleton_self _
  have hp1 : (src.view.loc (d : Thread nD τ) ↦[src.view.set]{q} fs) ⊢ (relay m).payload (gcell d (.send e)) 0 .y := by
    rw [payload_eq, ← hsrc]; exact BI.Entails.refl _
  have hp2 (fd) : (dst.view.loc (c' : Thread nD τ) ↦[dst.view.set]{fullShare} (dst.view.write (Elt F) fd (src.view.read (Elt F) fs) Finset.univ))
      ⊢ (relay m).payload (gcell c' (.recv e)) 0 .y := by
    rw [payload_eq]; exact hfill fd
  rw [hneeds, hsrc]
  iintro ⟨#HC, ⟨⟨Ht1, Ht2⟩, Hd, Hs⟩, HO⟩
  ihave Hd' := hland $$ Hd
  icases Hd' with ⟨%fd, Hd⟩
  iapply (Rounds.wp_send_pointsTo (hsc := hsc) (hsrc := h1) (hdst := h2) (hsem := h3)
    (k := k) (Q := Z) 𝒱₀ ER (relay m) (d : Thread nD τ) none (κ₁ := K (d, .send e)) (κ₂ := K (c', .recv e)) (Es := Set.univ)
    (r₁ := 0) (r₂ := 0) (d₁ := .y) (d₂ := .y) (fd := fd) (q := q) (fs := fs) hd1 hd2
    () () NC hN (amount_eq m d (.send e) .y) (amount_eq m c' (.recv e) .y) (owed d l) howed (W := W) hp1 (hp2 fd) (Topo.routes_tc _ _))
  isplitr; · iapply (context_inv m K d (.send e)); iexact HC
  isplitr; · iapply (context_inv m K c' (.recv e)); iexact HC
  isplitl [Hs]; · iexact Hs
  isplitl [Hd]; · iexact Hd
  isplitl [HO]; · iexact HO
  isplitl [Ht1]; · iexact Ht1
  isplitr; · iapply (context_reached m K d (.send e)); iexact HC
  isplitl [Ht2]; · iexact Ht2
  iapply (context_reached m K c' (.recv e)); iexact HC

/-- The rows of the argument and of the result, as the copies name them. -/
theorem argPts_eq (q : PosShare TreeShare) {p : ℕ} {o : Fin 2 → ℕ} {h} (ho : o = ![64 * p, 0]) :
    (argPts m d (argSet p) q : sProp 𝕄) = ((xRows o h).view.loc (d : Thread nD τ) ↦[(xRows o h).view.set]{q} argOf m d) := by
  subst ho; rw [xRows_set]
theorem filled_eq (q : PosShare TreeShare) {p : ℕ} {o : Fin 2 → ℕ} {h} (ho : o = ![64 * p, 0]) {e : Edge} (hp : p = chunkOf d e) :
    (filled m d q e : sProp 𝕄) = ((oRows o h).view.loc (d : Thread nD τ) ↦[(oRows o h).view.set]{q} gathered m d) := by
  subst ho; unfold filled; rw [oRows_set, ← hp]

/-- The place of a copy on the receiver, as the sender names it. -/
theorem place_open (c' : Dev nD) (e : Edge) {o : Fin 2 → ℕ} {h} (ho : o = ![64 * chunkOf c' e, 0]) :
    (landing c' e : sProp 𝕄) ⊢ iprop(∃ fd, outPts c' (oRows o h).view.set fullShare fd) := by
  subst ho; rw [oRows_set]; exact BI.Entails.refl _

/-- What a copy leaves in its place. -/
theorem place_filled (c' : Dev nD) (e : Edge) {o : Fin 2 → ℕ} {h} (ho : o = ![64 * chunkOf c' e, 0])
    {src : Memref sig .tc .hbm S64x1024 .f32} {fs : Buf (Elt F) (src.view.loc (d : Thread nD τ))} (hc : Carries m src d fs c' (chunkOf c' e)) (fd) :
    (outPts c' (oRows o h).view.set fullShare ((oRows o h).view.write (Elt F) fd (src.view.read (Elt F) fs) Finset.univ) : sProp 𝕄)
      ⊢ filled m c' fullShare e := by
  subst ho; rw [oRows_set]; exact Entails.of_eq (outPts_congr c' fullShare (hc h fd))

/-- What a copy along `y` reads is what its place ends with. -/
theorem carries_y (e : Edge) (he : e.axis = .y) {o : Fin 2 → ℕ} {h} (ho : o = ![64 * argChunk d e, 0]) :
    Carries m (xRows o h) d (argOf m d) (peer d .y) (chunkOf (peer d .y) e) :=
  carries_direct m d (peer d .y) (q' := chunkOf (peer d .y) e) ho rfl (origin_direct d e he)

/-- A start of any copy, from the facts about its source and its place. -/
theorem run_start_of (e : Edge) (l : List Step) (W : Waits sig Unit) {Z : PUnit.{1} → sProp 𝕄}
    {q : PosShare TreeShare} {fs : Buf (Elt F) ((srcM d e).view.loc (d : Thread nD τ))}
    (hsrc : source m d e = ((srcM d e).view.loc (d : Thread nD τ) ↦[(srcM d e).view.set]{q} fs))
    (hland : (landing (peer d e.axis) e : sProp 𝕄)
      ⊢ iprop(∃ fd, (dstM d e).view.loc ((peer d e.axis) : Thread nD τ) ↦[(dstM d e).view.set]{fullShare} fd))
    (hfill : ∀ fd, ((dstM d e).view.loc ((peer d e.axis) : Thread nD τ) ↦[(dstM d e).view.set]{fullShare}
        ((dstM d e).view.write (Elt F) fd ((srcM d e).view.read (Elt F) fs) Finset.univ)) ⊢ filled m (peer d e.axis) fullShare e) :
    iprop(context m K ∗ held m d (Step.start e).needs ∗ owes (d : Thread nD τ) (owed d (.start e :: l)) W)
      ⊢ iprop(((held m d (Step.start e).gives ∗ owes (d : Thread nD τ) (owed d l) W) -∗ runs d (k ⟨⟩) Z)
          -∗ runs d (.op ((Step.start e).op d) k) Z) :=
  run_start_at m K d e l W fs (credit_dst d e) hsrc hland hfill

/-- A start of any copy. -/
theorem run_start (e : Edge) (l : List Step) (W : Waits sig Unit) {Z : PUnit.{1} → sProp 𝕄} :
    iprop(context m K ∗ held m d (Step.start e).needs ∗ owes (d : Thread nD τ) (owed d (.start e :: l)) W)
      ⊢ iprop(((held m d (Step.start e).gives ∗ owes (d : Thread nD τ) (owed d l) W) -∗ runs d (k ⟨⟩) Z)
          -∗ runs d (.op ((Step.start e).op d) k) Z) := by
  cases e with
  | ydir j =>
    exact run_start_of m K d (.ydir j) l W (argPts_eq m d _ (off_arg_ydir d j)) (place_open _ _ (off_ydir d j))
      (place_filled m d _ _ (off_ydir d j) (carries_y m d (.ydir j) rfl (off_arg_ydir d j)))
  | ydiag j =>
    exact run_start_of m K d (.ydiag j) l W (argPts_eq m d _ (off_arg_ydiag d j)) (place_open _ _ (off_ydiag d j))
      (place_filled m d _ _ (off_ydiag d j) (carries_y m d (.ydiag j) rfl (off_arg_ydiag d j)))
  | xdir j =>
    exact run_start_of m K d (.xdir j) l W (filled_eq m d _ (off_xdir d j) (chunk_xdir d j)) (place_open _ _ (off_xdir d j))
      (place_filled m d _ _ (off_xdir d j) (carries_passed m d (peer d .x) (off_xdir d j) (origin_passed d (.xdir j) (by simp [Edge.axis]))))
  | zdir j =>
    exact run_start_of m K d (.zdir j) l W (filled_eq m d _ (off_zdir d j) (chunk_zdir d j)) (place_open _ _ (off_zdir d j))
      (place_filled m d _ _ (off_zdir d j) (carries_passed m d (peer d .z) (off_zdir d j) (origin_passed d (.zdir j) (by simp [Edge.axis]))))
  | xhalf j =>
    exact run_start_of m K d (.xhalf j) l W (filled_eq m d _ (off_xhalf d j) (chunk_xhalf d j)) (place_open _ _ (off_xhalf d j))
      (place_filled m d _ _ (off_xhalf d j) (carries_passed m d (peer d .x) (off_xhalf d j) (origin_passed d (.xhalf j) (by simp [Edge.axis]))))
  | zhalf j =>
    exact run_start_of m K d (.zhalf j) l W (filled_eq m d _ (off_zhalf d j) (chunk_zhalf d j)) (place_open _ _ (off_zhalf d j))
      (place_filled m d _ _ (off_zhalf d j) (carries_passed m d (peer d .z) (off_zhalf d j) (origin_passed d (.zhalf j) (by simp [Edge.axis]))))

/-- A step that raises nothing leaves what is owed. -/
theorem owed_keep (s : Step) (hs : s.raises = none) (l : List Step) : owed d (s :: l) = owed d l := by
  show owed d l + s.pays d = owed d l
  unfold Step.pays
  rw [hs]; exact add_zero _

/-- The local copy's start, for any source and place. -/
theorem run_local_at (l : List Step) (W : Waits sig Unit) {Z : PUnit.{1} → sProp 𝕄}
    {src dst : Memref sig .tc .hbm S4096x1024 .f32} {q : PosShare TreeShare} (fs : Buf (Elt F) (src.view.loc (d : Thread nD τ)))
    {h1 h2 h3} (hN : dst.view.dmaCredit = NL)
    (hsrc : (argPts m d Finset.univ fullShare.left : sProp 𝕄) = (src.view.loc (d : Thread nD τ) ↦[src.view.set]{q} fs))
    (hland : (Res.holds m d .ownAny : sProp 𝕄) ⊢ iprop(∃ fd, dst.view.loc (d : Thread nD τ) ↦[dst.view.set]{fullShare} fd))
    (hfill : ∀ fd, (dst.view.loc (d : Thread nD τ) ↦[dst.view.set]{fullShare} (dst.view.write (Elt F) fd (src.view.read (Elt F) fs) Finset.univ))
      ⊢ outPts d (halfSet (cy d)) fullShare (gathered m d)) :
    iprop(context m K ∗ held m d Step.localStart.needs ∗ owes (d : Thread nD τ) (owed d (.localStart :: l)) W)
      ⊢ iprop(((held m d Step.localStart.gives ∗ owes (d : Thread nD τ) (owed d l) W) -∗ runs d (k ⟨⟩) Z)
          -∗ runs d (.op (.enqueueDma src (.here dst) (.dma locS) h1 h2 h3) k) Z) := by
  have hd : Axis.y ∈ (relay m).duties (gcell d .loc) 0 := by rw [duties_eq]; exact Finset.mem_singleton_self _
  have hp (fd) : iprop((dst.view.loc (d : Thread nD τ) ↦[dst.view.set]{fullShare} (dst.view.write (Elt F) fd (src.view.read (Elt F) fs) Finset.univ))
      ∗ (src.view.loc (d : Thread nD τ) ↦[src.view.set]{q} fs)) ⊢ (relay m).payload (gcell d .loc) 0 .y := by
    rw [payload_eq, ← hsrc]
    unfold payloadOf
    iintro ⟨H1, H2⟩
    isplitl [H2]; · iexact H2
    iapply (hfill fd); iexact H1
  rw [owed_keep d .localStart rfl]
  show iprop(context m K ∗ (dutyTok ER (gcell d .loc) 0 .y ∗ Res.holds m d .ownAny ∗ argPts m d Finset.univ fullShare.left) ∗ owes (d : Thread nD τ) (owed d l) W)
    ⊢ iprop(((cred (tallyAt (gcell d .loc) () NL) ∗ owes (d : Thread nD τ) (owed d l) W) -∗ runs d (k ⟨⟩) Z) -∗ _)
  rw [hsrc]
  iintro ⟨#HC, ⟨Ht, Hd, Hs⟩, HO⟩ Hk
  ihave Hd' := hland $$ Hd
  icases Hd' with ⟨%fd, Hd⟩
  iapply (Rounds.wp_copy_pointsTo 𝒱₀ ER (relay m) (d : Thread nD τ) none (κ := K (d, .loc)) (r := 0) (d := .y) (fd := fd)
    (q := q) (fs := fs) hd () NL hN (amount_eq m d .loc .y) (hp fd)) $$ [Ht Hd Hs]
  · isplitr; · iapply (context_inv m K d .loc); iexact HC
    isplitl [Hs]; · iexact Hs
    isplitl [Hd]; · iexact Hd
    isplitl [Ht]; · iexact Ht
    iapply (context_reached m K d .loc); iexact HC
  iintro Hc
  iapply Hk
  isplitl [Hc]; · iexact Hc
  iexact HO

/-- The start of the local copy. -/
theorem run_localStart (l : List Step) (W : Waits sig Unit) {Z : PUnit.{1} → sProp 𝕄} :
    iprop(context m K ∗ held m d Step.localStart.needs ∗ owes (d : Thread nD τ) (owed d (.localStart :: l)) W)
      ⊢ iprop(((held m d Step.localStart.gives ∗ owes (d : Thread nD τ) (owed d l) W) -∗ runs d (k ⟨⟩) Z)
          -∗ runs d (.op (Step.localStart.op d) k) Z) := by
  have hland : (Res.holds m d .ownAny : sProp 𝕄) ⊢ iprop(∃ fd, outPts d (ownM d).view.set fullShare fd) := by
    rw [ownM_set]; exact BI.Entails.refl _
  have hfill (fd) : (outPts d (ownM d).view.set fullShare ((ownM d).view.write (Elt F) fd (xM.view.read (Elt F) (argOf m d)) Finset.univ) : sProp 𝕄)
      ⊢ outPts d (halfSet (cy d)) fullShare (gathered m d) := by
    rw [ownM_set]; exact Entails.of_eq (outPts_congr d fullShare (own_write m d fd))
  have hsrc : (argPts m d Finset.univ fullShare.left : sProp 𝕄) = argPts m d xM.view.set fullShare.left := by
    rw [show xM.view.set = Finset.univ from View.set_whole _]
  exact run_local_at m K d l W (src := xM) (dst := ownM d) (q := fullShare.left) (argOf m d) (credit_own d) hsrc hland hfill

end Cert.Relay

end
-- ==== Proof.Execute.lean ====
/-
# The kernel's steps find what they need

The list computation of `exec` on the kernel's steps.
-/
module

public import proofs.«01_k».proof.Proof.Resources

@[expose] public section

namespace Cert.Relay

/-- The kernel's steps find all they need and end with `atEnd`. -/
theorem exec_steps : ∃ σ, exec steps atStart = some σ ∧ σ.Perm atEnd := by
  have h : ((exec steps atStart).map fun σ => σ.isPerm atEnd) = some true := by decide +kernel
  cases hσ : exec steps atStart with
  | none => rw [hσ] at h; cases h
  | some σ => rw [hσ] at h; exact ⟨σ, rfl, List.isPerm_iff.1 (Option.some.inj h)⟩

end Cert.Relay

end
-- ==== Proof.Waits.lean ====
/-
# Waits, and the run of all steps

The rules of the waits, and the run of a list of steps (`run_steps`): one rule per kind of step, repeated along the list
whose bookkeeping `exec` has done.
-/
module

public import proofs.«01_k».proof.Proof.Run
public import proofs.«01_k».proof.Proof.Execute

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cell → ℕ) (d : Dev nD) {k : PUnit.{1} → Prog (TpuEff nD τ sig (Elt F) Λ₀ .tc) PUnit}

/-! ## Waits -/

/-- A wait for all of a cell's round: what the round hands over, and the semaphore back at zero. -/
theorem run_wait {w : TpuEff nD τ sig (Elt F) Λ₀ .tc PUnit} (kc : Cell)
    (hw : ∀ Z : PUnit → sProp 𝕄, wpE (defs₀ (F := F)) 𝒱₀ (d : Thread nD τ) none Set.univ w Z = waitSpec (d : Thread nD τ) Set.univ kc.sem (total kc) Z)
    (l : List Step) (hl : above (level kc) l = true) (W : Waits sig Unit) {pay : sProp 𝕄}
    (hpay : bigSep ((relay m).duties (gcell d kc) 0 \ ∅) (fun a => (relay m).payload (gcell d kc) 0 a) = pay) {Z : PUnit.{1} → sProp 𝕄} :
    iprop(context m K ∗ (atPos ER (gcell d kc) 0 ∅ 0 ∗ cred (tallyAt (gcell d kc) () (total kc))) ∗ owes (d : Thread nD τ) (owed d l) W)
      ⊢ iprop((((semVal (gcell d kc) 0 ∗ pay) ∗ owes (d : Thread nD τ) (owed d l) (insert (kc.sem, ()) W)) -∗ runs d (k ⟨⟩) Z)
          -∗ runs d (.op w k) Z) := by
  subst hpay
  iintro ⟨#HC, ⟨Hat, Hc⟩, HO⟩ Hk
  iapply (Rounds.wp_wait_rest_token 𝒱₀ ER (relay m) (d : Thread nD τ) none (κ := K (d, kc)) hw (Set.mem_univ _) () (O := owed d l) (W := W)
    (R := 0) (m := 0) (T := ∅) (by rw [Nat.zero_add, expect_eq])) $$ [Hat Hc HO]
  · isplitr; · iapply (context_inv m K d kc); iexact HC
    isplitl [Hc]; · iexact Hc
    isplitl [HO]; · iexact HO
    isplitr
    · iapply (mayWait d kc.sem (level kc) (le_of_eq (lv_cell d kc ())) l hl); iapply (context_levels m K); iexact HC
    iexact Hat
  iintro ⟨HO, Hat, -, Hpay⟩
  imod (Rounds.cell_close ER (relay m) (Set.mem_univ (K (d, kc))) (fun h => h) (R := 0 + 1) (duties_later m (gcell d kc))) $$ [Hat] with Hz
  · isplitr; · iapply (context_inv m K d kc); iexact HC
    iexact Hat
  iapply Hk
  isplitl [Hz Hpay]
  · isplitl [Hz] <;> iassumption
  iexact HO

theorem place_dst {a : Axis} {e : Edge} (h : e.axis = a) : (landing (peer d a) e : sProp 𝕄) = Res.holds m d (.dst e) := by
  subst h; unfold Res.holds; rfl

/-- The places a neighbour hands over are those of the copies along that axis. -/
theorem landings_dst (a : Axis) : (landings (peer d a) a : sProp 𝕄) = held m d ((edgesOn a).map .dst) :=
  (bigSepL_eq fun _ he => place_dst m d (edgesOn_axis he)).trans (bigSepL_map _ _ _).symm

/-- The barrier wait. -/
theorem run_gather (l : List Step) (hl : above (level .bar) l = true) (W : Waits sig Unit) {Z : PUnit.{1} → sProp 𝕄} :
    iprop(context m K ∗ held m d Step.gather.needs ∗ owes (d : Thread nD τ) (owed d (.gather :: l)) W)
      ⊢ iprop(((held m d Step.gather.gives ∗ owes (d : Thread nD τ) (owed d l) (insert (Cell.bar.sem, ()) W)) -∗ runs d (k ⟨⟩) Z)
          -∗ runs d (.op (Step.gather.op d) k) Z) := by
  have hg : (held m d Step.gather.gives : sProp 𝕄)
      = iprop(semVal (gcell d .bar) 0 ∗ landings (peer d .y) .y ∗ landings (peer d .x) .x ∗ landings (peer d .z) .z) := by
    unfold held Step.gives
    rw [bigSepL_cons', bigSepL_append, bigSepL_append, landings_dst m, landings_dst m, landings_dst m]
    rfl
  rw [hg, owed_keep d .gather rfl]
  exact run_wait m K d .bar (wpE_semWait_eq 𝒱₀ (d : Thread nD τ) none Set.univ) l hl W (rest_bar m d)

/-- The wait for an arrival. -/
theorem run_waitRecv (e : Edge) (l : List Step) (hl : above (level (.recv e)) l = true) (W : Waits sig Unit) {Z : PUnit.{1} → sProp 𝕄} :
    iprop(context m K ∗ held m d (Step.waitRecv e).needs ∗ owes (d : Thread nD τ) (owed d (.waitRecv e :: l)) W)
      ⊢ iprop(((held m d (Step.waitRecv e).gives ∗ owes (d : Thread nD τ) (owed d l) (insert ((Cell.recv e).sem, ()) W)) -∗ runs d (k ⟨⟩) Z)
          -∗ runs d (.op ((Step.waitRecv e).op d) k) Z) := by
  have hg : (held m d (Step.waitRecv e).gives : sProp 𝕄) = iprop(semVal (gcell d (.recv e)) 0 ∗ filled m d fullShare e) := by
    rw [filled_halves m]; rfl
  rw [hg, owed_keep d (.waitRecv e) rfl]
  exact run_wait m K d (.recv e) (w := (Step.waitRecv e).op d) (fun Z => (wpE_waitDma2_eq 𝒱₀ (d : Thread nD τ) none Set.univ (src := srcM d e) (dst := dstM d e) (hsrc := srcM_wordExact d e)
      (hdst := dstM_wordExact d e) Z).trans (by rw [credit_dst]; rfl)) l hl W (rest_one m d (.recv e) rfl)

/-- The wait for a departure. -/
theorem run_waitSend (e : Edge) (l : List Step) (hl : above (level (.send e)) l = true) (W : Waits sig Unit) {Z : PUnit.{1} → sProp 𝕄} :
    iprop(context m K ∗ held m d (Step.waitSend e).needs ∗ owes (d : Thread nD τ) (owed d (.waitSend e :: l)) W)
      ⊢ iprop(((held m d (Step.waitSend e).gives ∗ owes (d : Thread nD τ) (owed d l) (insert ((Cell.send e).sem, ()) W)) -∗ runs d (k ⟨⟩) Z)
          -∗ runs d (.op ((Step.waitSend e).op d) k) Z) := by
  have hg : (held m d (Step.waitSend e).gives : sProp 𝕄) = iprop(semVal (gcell d (.send e)) 0 ∗ source m d e) := by
    unfold held Step.gives
    rw [bigSepL_cons', show bigSepL (srcs e) (Res.holds m d) = source m d e from srcs_holds m d e]
    rfl
  have hn : (held m d (Step.waitSend e).needs : sProp 𝕄)
      = iprop(cred (tallyAt (gcell d (.send e)) () (total (.send e))) ∗ atPos ER (gcell d (.send e)) 0 ∅ 0) := rfl
  have hrun := run_wait m K d (.send e) (k := k) (Z := Z) (w := (Step.waitSend e).op d)
    (fun Z => (wpE_waitDma2_eq 𝒱₀ (d : Thread nD τ) none Set.univ (src := dstM d e) (dst := srcM d e) (hsrc := dstM_wordExact d e)
      (hdst := srcM_wordExact d e) Z).trans (by rw [credit_src]; rfl)) l hl W (rest_one m d (.send e) rfl)
  rw [hg, hn, owed_keep d (.waitSend e) rfl]
  iintro ⟨HC, ⟨Hc, Hat⟩, HO⟩
  iapply hrun
  isplitl [HC]; · iexact HC
  isplitl [Hc Hat]
  · isplitl [Hat] <;> iassumption
  iexact HO

/-- The wait for the local copy. -/
theorem run_localWait (l : List Step) (hl : above (level .loc) l = true) (W : Waits sig Unit) {Z : PUnit.{1} → sProp 𝕄} :
    iprop(context m K ∗ held m d Step.localWait.needs ∗ owes (d : Thread nD τ) (owed d (.localWait :: l)) W)
      ⊢ iprop(((held m d Step.localWait.gives ∗ owes (d : Thread nD τ) (owed d l) (insert (Cell.loc.sem, ()) W)) -∗ runs d (k ⟨⟩) Z)
          -∗ runs d (.op (Step.localWait.op d) k) Z) := by
  have hg : (held m d Step.localWait.gives : sProp 𝕄) = iprop(semVal (gcell d .loc) 0 ∗ payloadOf m d .y (some .loc)) := rfl
  have hn : (held m d Step.localWait.needs : sProp 𝕄) = iprop(cred (tallyAt (gcell d .loc) () (total .loc)) ∗ atPos ER (gcell d .loc) 0 ∅ 0) := rfl
  have hrun := run_wait m K d .loc (k := k) (Z := Z) (w := Step.localWait.op d)
    (wpE_waitDma2_eq 𝒱₀ (d : Thread nD τ) none Set.univ (src := xM) (dst := ownM d) (hsrc := (Memref.isWhole_whole _).wordExact)
      (hdst := ownM_wordExact d)) l hl W (rest_one m d .loc rfl)
  rw [hg, hn, owed_keep d .localWait rfl]
  iintro ⟨HC, ⟨Hc, Hat⟩, HO⟩
  iapply hrun
  isplitl [HC]; · iexact HC
  isplitl [Hc Hat]
  · isplitl [Hat] <;> iassumption
  iexact HO

/-! ## All steps -/

/-- One step of any kind, from what it needs to what it gives. -/
theorem run_step (s : Step) (l : List Step) (hs : s.ordered l = true) (W : Waits sig Unit) {Z : PUnit.{1} → sProp 𝕄} :
    iprop(context m K ∗ held m d s.needs ∗ owes (d : Thread nD τ) (owed d (s :: l)) W)
      ⊢ iprop((∀ W', (held m d s.gives ∗ owes (d : Thread nD τ) (owed d l) W') -∗ runs d (k ⟨⟩) Z) -∗ runs d (.op (s.op d) k) Z) := by
  cases s with
  | signal a =>
    show _ ⊢ iprop((∀ W', (emp ∗ owes (d : Thread nD τ) (owed d l) W') -∗ runs d (k ⟨⟩) Z) -∗ _)
    iintro H Hk
    iapply (run_signal m K d a l W) $$ H
    iintro HO
    iapply Hk
    isplitr; · iempintro
    iexact HO
  | gather =>
    iintro H Hk
    iapply (run_gather m K d l hs W) $$ H
    iapply Hk
  | start e =>
    iintro H Hk
    iapply (run_start m K d e l W) $$ H
    iapply Hk
  | waitRecv e =>
    iintro H Hk
    iapply (run_waitRecv m K d e l hs W) $$ H
    iapply Hk
  | waitSend e =>
    iintro H Hk
    iapply (run_waitSend m K d e l hs W) $$ H
    iapply Hk
  | localStart =>
    iintro H Hk
    iapply (run_localStart m K d l W) $$ H
    iapply Hk
  | localWait =>
    iintro H Hk
    iapply (run_localWait m K d l hs W) $$ H
    iapply Hk

/-- A list of steps whose run on the names of the pieces succeeds runs from the pieces to the pieces. -/
theorem run_steps (l : List Step) (σ σ' : List Res) (h : exec l σ = some σ') (W : Waits sig Unit) {Z : PUnit.{1} → sProp 𝕄} :
    iprop(context m K ∗ held m d σ ∗ owes (d : Thread nD τ) (owed d l) W)
      ⊢ iprop((∀ W', (held m d σ' ∗ owes (d : Thread nD τ) 0 W') -∗ Z ⟨⟩) -∗ runs d (prog d l) Z) := by
  induction l generalizing σ W with
  | nil =>
    obtain rfl : σ = σ' := Option.some.inj h
    show iprop(context m K ∗ held m d σ ∗ owes (d : Thread nD τ) 0 W) ⊢ iprop(_ -∗ wp frame (wpE (defs₀ (F := F)) 𝒱₀ (d : Thread nD τ) none) Set.univ (.ret ⟨⟩) Z)
    rw [wp_ret]
    iintro ⟨-, Hh, HO⟩ Hk
    imodintro
    iapply Hk
    isplitl [Hh] <;> iassumption
  | cons s l ih =>
    unfold exec at h
    by_cases hs : s.ordered l = true
    · rw [if_pos hs] at h
      obtain ⟨σ₁, h₁, h₂⟩ := Option.bind_eq_some_iff.1 h
      have ih' (W') := ih (s.gives ++ σ₁) h₂ W'
      rw [take_holds m d h₁]
      iintro ⟨#HC, ⟨Hn, Hr⟩, HO⟩ Hk
      iapply (run_step m K d s l hs W) $$ [Hn HO]
      · isplitr; · iexact HC
        isplitl [Hn] <;> iassumption
      iintro %W' ⟨Hg, HO⟩
      iapply (ih' W') $$ [Hg Hr HO]
      · isplitr; · iexact HC
        isplitl [Hg Hr]
        · unfold held
          rw [bigSepL_append]
          isplitl [Hg] <;> iassumption
        iexact HO
      iexact Hk
    · rw [if_neg hs] at h; exact absurd h (by simp)

/-- The whole kernel, from what a device starts with to what it ends with. -/
theorem run_all (W : Waits sig Unit) {Z : PUnit.{1} → sProp 𝕄} :
    iprop(context m K ∗ held m d atStart ∗ owes (d : Thread nD τ) (owed d steps) W)
      ⊢ iprop((∀ W', (held m d atEnd ∗ owes (d : Thread nD τ) 0 W') -∗ Z ⟨⟩) -∗ runs d (prog d steps) Z) := by
  obtain ⟨σ, h, hp⟩ := exec_steps
  rw [← held_perm m d hp]
  exact run_steps m K d steps atStart σ h W

end Cert.Relay

end
-- ==== Proof.Body.lean ====
/-
# The kernel under its launch

The launch runs the kernel once per device, at its one grid point. What it holds before and after (`start`, `finish`), and
that the kernel takes the one to the other (`body`).
-/
module

public import proofs.«01_k».proof.Proof.Credits
public import proofs.«01_k».proof.Proof.Waits
public import proofs.«01_k».proof.Proof.Gen.KernelIdeal.Launch
public import proofs.«01_k».proof.Proof.Gen.KernelIdeal.Points
public import Idealize.ShloMosaic.Lib.Pipeline.Launch

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (d : Dev nD)

/-- Before the run: what holds throughout, what the first steps find, the rows set aside. -/
def start : sProp 𝕄 := iprop((∃ K, context m K) ∗ held m d atStart ∗ aside m d)

/-- After the run. -/
def finish : sProp 𝕄 := iprop(held m d atEnd ∗ aside m d)

def dats (_ : Fin 1) (c : Dev nD) : Dat τ (Elt F) Unit ℕ UU ℕ cfg0 c where
  A w := m ((cfg0.win w).arr.view.loc (c : Thread nD τ))
  after w _ := (show Fin 0 from w).elim0
  Φ t := match t with
    | ⟨0, _⟩ => start m c
    | ⟨_ + 1, _⟩ => finish m c
  q _ := fullShare
  owed t := match t with
    | ⟨0, _⟩ => O₀ c
    | ⟨_ + 1, _⟩ => 0

/-- A program that is the kernel's steps runs as they do. -/
theorem run_body (l : List Step) {p : Prog (TpuEff nD τ sig (Elt F) Λ₀ .tc) PUnit} (hp : p = .op .deviceId fun d => prog d l) {P : sProp 𝕄} {Z : PUnit.{1} → sProp 𝕄}
    (h : P ⊢ runs d (prog d l) Z) : P ⊢ runs d p Z := by
  subst hp
  show _ ⊢ wp frame (wpE (defs₀ (F := F)) 𝒱₀ (d : Thread nD τ) none) Set.univ (.op .deviceId fun d => prog d l) Z
  rw [wp_deviceId]
  exact h

/-- From `start` to `finish`, with everything owed paid. -/
theorem run_start_finish : iprop(start m d ∗ (dats m 0 d).owesAt () t0_0.castSucc ∗ emp)
    ⊢ runs d (prog d steps) (fun _ => iprop(finish m d ∗ (dats m 0 d).owesAt () t0_0.succ ∗ emp)) := by
  unfold start Dat.owesAt Pipeline.owesWithin
  rw [show (dats m 0 d).owed t0_0.castSucc = owed d steps from rfl, show (dats m 0 d).owed t0_0.succ = 0 from rfl]
  iintro ⟨⟨⟨%K, #HC⟩, Hh, Ha⟩, ⟨%W, %hW, HO⟩, -⟩
  iapply (run_all m K d W) $$ [Hh HO]
  · isplitr; · iexact HC
    isplitl [Hh] <;> iassumption
  iintro %W' ⟨Hh, HO⟩
  isplitl [Hh Ha]
  · unfold finish
    isplitl [Hh] <;> iassumption
  isplitl [HO]
  · iexists W'
    isplitr; · ipureintro; exact fun _ _ => Or.inl trivial
    iexact HO
  iempintro

theorem no_windows (Φ : Fin cfg0.W → sProp 𝕄) : (bigSep Finset.univ Φ : sProp 𝕄) = iprop(emp) := bigSep_univ_eq_bigSepL [] rfl List.nodup_nil Φ

set_option maxRecDepth 8000 in
theorem called : (defs₀ (F := F) .tc cfg0.body (cfg0.bodyArgs t0_0 (cfg0.slots t0_0)) : Prog (TpuEff nD τ sig (Elt F) Λ₀ .tc) PUnit)
    = .op .deviceId fun d => prog d steps := body_eq

theorem body (c : Dev nD) : BodyObligation (dats (F := F) m 0 c) (defs₀ (F := F)) 𝒱₀ () Set.univ := fun t => by
  rw [fin_N0 t, no_windows, no_windows]
  have h0 : (dats m 0 c).Φ t0_0.castSucc = start m c := rfl
  have h1 : (dats m 0 c).Φ t0_0.succ = finish m c := rfl
  rw [h0, h1]
  refine Eq.mp ?_ (run_body (F := F) c steps called (run_start_finish m c))
  congr 1

end Cert.Relay

end
-- ==== Proof.Ghost.lean ====
/-
# The launch's global step

The rounds of all cells of all devices are funded together, every cell gets its invariant, and every right to raise a cell
goes to the device that raises it.
-/
module

public import proofs.«01_k».proof.Proof.Ends
public import proofs.«01_k».proof.Proof.Run
public import Idealize.ShloMosaic.Lib.Pipeline.Launch

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (d : Dev nD)

/-! ## The cells and the rights, all devices together -/

def cellOfPair (ck : Dev nD × Cell) : GSem nD τ sig := gcell ck.1 ck.2

theorem cellOfPair_inj : Function.Injective cellOfPair := fun _ _ h => Prod.ext (gcell_inj h).1 (gcell_inj h).2

def allCells : Finset (GSem nD τ sig) := Finset.univ.map ⟨cellOfPair, cellOfPair_inj⟩

def rightOf (cp : Dev nD × Pay) : GSem nD τ sig × ℕ × Axis := (gcell cp.1 cp.2.cell, 0, cp.2.duty)

/-- A right is known by its cell and its name. -/
theorem pay_inj {p p' : Pay} (hc : p.cell = p'.cell) (hd : p.duty = p'.duty) : p = p' := by
  rcases p with a | _ | ⟨_ | _, e⟩ <;> rcases p' with a' | _ | ⟨_ | _, e'⟩ <;>
    simp_all [Pay.cell, Pay.duty, Own.cell]

theorem rightOf_inj : Function.Injective rightOf := fun x y h => by
  obtain ⟨h1, h2⟩ := gcell_inj (congrArg (fun r : GSem nD τ sig × ℕ × Axis => r.1) h)
  exact Prod.ext h1 (pay_inj h2 (congrArg (fun r : GSem nD τ sig × ℕ × Axis => r.2.2) h))

def allRights : Finset (GSem nD τ sig × ℕ × Axis) := Finset.univ.map ⟨rightOf, rightOf_inj⟩

/-- The element the launch starts from: the pipeline's part and the rounds' part. -/
def u₀ : UU := (initOf (Pipeline.cells cfgs cellOf_inj) (Pipeline.launchToks cfgs cellOf_inj), initOf allCells allRights)

/-- The rights to raise a device's own cells. -/
def ownRights (c : Dev nD) : sProp 𝕄 := bigSep Finset.univ fun p : Pay => dutyTok ER (gcell c p.cell) 0 p.duty

/-- What the funding deals a device. -/
def G (c : Dev nD) : sProp 𝕄 :=
  iprop((bigSep Finset.univ fun k : Cell => roundState ER (relay m) (gcell c k) 0)
    ∗ ((bigSep Finset.univ fun k : Cell => reached ER (gcell c k) 0) ∗ positions c) ∗ ownRights c)

/-- Two nested products as one over the pairs. -/
theorem pairs {α : Type} [Fintype α] (Φ : Dev nD → α → sProp 𝕄) :
    (bigSep Finset.univ fun c => bigSep Finset.univ (Φ c)) = bigSep Finset.univ fun x : Dev nD × α => Φ x.1 x.2 :=
  (bigSep_univ_prod fun x : Dev nD × α => Φ x.1 x.2).symm

/-- The invariants and the marks of all cells. -/
def record (K : Dev nD × Cell → ℕ) : sProp 𝕄 :=
  iprop((bigSep Finset.univ fun ck : Dev nD × Cell => cellInv ER (relay m) (K ck) (gcell ck.1 ck.2))
    ∗ bigSep Finset.univ fun ck : Dev nD × Cell => reached ER (gcell ck.1 ck.2) 0)

instance record_persistent (K : Dev nD × Cell → ℕ) : BI.Persistent (record m K) := by unfold record; infer_instance

/-- What the global step leaves a device. -/
def G' (c : Dev nD) : sProp 𝕄 := iprop((∃ K, record m K) ∗ rights c ∗ positions c)

theorem context_intro (K : Dev nD × Cell → ℕ) : iprop(record m K ∗ levAts L lv) ⊢ (context m K : sProp 𝕄) := by
  unfold record context
  iintro ⟨⟨H1, H2⟩, H3⟩
  isplitl [H1]; · iexact H1
  isplitl [H2] <;> iassumption

theorem fund_all : BI.own (ER (initOf allCells allRights)) ⊢ (|==> bigSep Finset.univ (G m) : sProp 𝕄) := by
  have hX (Φ : GSem nD τ sig → sProp 𝕄) : bigSep allCells Φ = bigSep Finset.univ fun c : Dev nD => bigSep Finset.univ fun k : Cell => Φ (gcell c k) := by
    unfold allCells; rw [bigSep_map, bigSep_univ_prod]; rfl
  have hT : bigSep allRights (fun x => (dutyTok ER x.1 x.2.1 x.2.2 : sProp 𝕄)) = bigSep Finset.univ fun c : Dev nD => ownRights c := by
    unfold allRights; rw [bigSep_map, bigSep_univ_prod]; rfl
  have hG : (bigSep Finset.univ (G m) : sProp 𝕄) = iprop((bigSep allCells fun g => roundState ER (relay m) g 0)
      ∗ ((bigSep allCells fun g => reached ER g 0) ∗ bigSep allCells fun g => atPos ER g 0 ∅ 0) ∗ bigSep allRights fun x => dutyTok ER x.1 x.2.1 x.2.2) := by
    rw [hX, hX, hX, hT]
    unfold G positions
    rw [bigSep_sep', bigSep_sep', bigSep_sep']
  rw [hG]
  iintro H
  imod (Rounds.fund ER (relay m) allCells allRights) $$ H with ⟨H1, H2, H3, H4⟩
  imodintro
  isplitl [H1]; · iexact H1
  isplitl [H2 H3]
  · isplitl [H2] <;> iassumption
  iexact H4

/-! ## The semaphores -/

abbrev osem (o : Own) : SemLoc sig := o.cell.sem

theorem own_facts : Pipeline.OwnSemFacts cfg0.spec osem := by decide +kernel

theorem unscoped_bar (c : Dev nD) : (unscopedSems0 c : sProp 𝕄) = semVal (gcell c .bar) 0 := by
  unfold unscopedSems0
  rw [bigSep_eq_bigSepL_of_eq [SemLoc.reg barS] (by decide +kernel) (by decide), bigSepL_singleton]
  rfl

theorem own_sems (c : Dev nD) : (Pipeline.ownSems0 (Ix := Unit) (Name := ℕ) (U := UU) (Lvl := ℕ) (Val := Elt F) (τ := τ) osem c : sProp 𝕄)
    = bigSep Finset.univ fun o : Own => semVal (gcell c o.cell) 0 := rfl

/-- Every counter of a device at zero. -/
theorem sems_zero (c : Dev nD) :
    iprop((bigSep Finset.univ fun o : Own => semVal (gcell c o.cell) 0) ∗ semVal (gcell c .bar) 0) ⊢ (bigSep Finset.univ fun k : Cell => semVal (gcell c k) 0 : sProp 𝕄) := by
  have h : (bigSep Finset.univ fun o : Own => semVal (gcell c o.cell) 0 : sProp 𝕄)
      = iprop(semVal (gcell c .loc) 0 ∗ (bigSepL edges fun e => semVal (gcell c (.send e)) 0) ∗ bigSepL edges fun e => semVal (gcell c (.recv e)) 0) :=
    owns_split _
  rw [h, cells_split]
  iintro ⟨⟨H1, H2⟩, H3⟩
  isplitl [H3]; · iexact H3
  isplitl [H2] <;> iassumption

/-! ## The global step -/

/-- One device's cells get their invariants. -/
theorem alloc_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (relay m) κ (gcell c k)))
          ∗ ((bigSep Finset.univ fun k : Cell => reached ER (gcell c k) 0) ∗ positions c) ∗ ownRights c) := by
  have hinv : iprop((bigSep Finset.univ fun k : Cell => semVal (gcell c k) 0) ∗ bigSep Finset.univ fun k : Cell => roundState ER (relay m) (gcell c k) 0)
      ⊢ (|={Set.univ}=> bigSep Finset.univ fun k => iprop(∃ κ : ℕ, cellInv ER (relay m) κ (gcell c k)) : sProp 𝕄) := by
    rw [← bigSep_sep']
    exact (bigSep_mono fun k _ => (Rounds.body_intro ER (relay m) (gcell c k)).trans inv_alloc).trans (bigSep_fupd _ _)
  have hz := sems_zero (F := F) c
  rw [own_sems, unscoped_bar]
  unfold G
  iintro ⟨Ho, Hu, Hs, Hp⟩
  ihave Hz := hz $$ [Ho Hu]
  · isplitl [Ho] <;> iassumption
  imod hinv $$ [Hz Hs] with Hi
  · isplitl [Hz] <;> iassumption
  imodintro
  isplitl [Hi] <;> iassumption

/-- The devices and their rights, each right at the device that raises with it. -/
def turnAll : Dev nD × Pay ≃ Dev nD × Pay where
  toFun x := (x.2.turn x.1, x.2)
  invFun x := (x.2.turn.symm x.1, x.2)
  left_inv x := Prod.ext (x.2.turn.symm_apply_apply x.1) rfl
  right_inv x := Prod.ext (x.2.turn.apply_symm_apply x.1) rfl

/-- The rights to raise the devices' cells are the rights the devices raise with. -/
theorem rights_around : (bigSep Finset.univ fun c : Dev nD => (ownRights c : sProp 𝕄)) = bigSep Finset.univ fun c : Dev nD => rights c := by
  unfold ownRights rights
  have h1 : (bigSep Finset.univ fun c : Dev nD => bigSep Finset.univ fun p : Pay => (dutyTok ER (gcell c p.cell) 0 p.duty : sProp 𝕄))
      = bigSep Finset.univ fun x : Dev nD × Pay => dutyTok ER (gcell x.1 x.2.cell) 0 x.2.duty := pairs _
  have h2 : (bigSep Finset.univ fun c : Dev nD => bigSep Finset.univ fun p : Pay => (dutyTok ER (gcell (p.turn c) p.cell) 0 p.duty : sProp 𝕄))
      = bigSep Finset.univ fun x : Dev nD × Pay => dutyTok ER (gcell (x.2.turn x.1) x.2.cell) 0 x.2.duty := pairs _
  rw [h1, h2]
  exact bigSep_univ_equiv turnAll _

theorem deal {R : sProp 𝕄} [BI.Persistent R] (Φ : Dev nD → sProp 𝕄) : iprop(R ∗ bigSep Finset.univ Φ) ⊢ bigSep Finset.univ fun c => iprop(R ∗ Φ c) := by
  rw [bigSep_sep']
  exact sep_mono_left (BI.bigSep_of_persistent Finset.univ R)

theorem regroup :
    (bigSep Finset.univ fun c : Dev nD => iprop((bigSep Finset.univ fun k => iprop(∃ κ : ℕ, cellInv ER (relay m) κ (gcell c k)))
          ∗ ((bigSep Finset.univ fun k : Cell => reached ER (gcell c k) 0) ∗ positions c) ∗ ownRights c) : sProp 𝕄)
      ⊢ bigSep Finset.univ (G' m) := by
  have hinv : (bigSep Finset.univ fun c : Dev nD => bigSep Finset.univ fun k : Cell => iprop(∃ κ : ℕ, cellInv ER (relay m) κ (gcell c k)) : sProp 𝕄)
      = bigSep Finset.univ fun ck : Dev nD × Cell => iprop(∃ κ : ℕ, cellInv ER (relay m) κ (gcell ck.1 ck.2)) := pairs _
  have hre : (bigSep Finset.univ fun c : Dev nD => bigSep Finset.univ fun k : Cell => reached ER (gcell c k) 0 : sProp 𝕄)
      = bigSep Finset.univ fun ck : Dev nD × Cell => reached ER (gcell ck.1 ck.2) 0 := pairs _
  have hnames : (bigSep Finset.univ fun ck : Dev nD × Cell => iprop(∃ κ : ℕ, cellInv ER (relay m) κ (gcell ck.1 ck.2)) : sProp 𝕄)
      ⊢ iprop(∃ K : Dev nD × Cell → ℕ, bigSep Finset.univ fun ck : Dev nD × Cell => cellInv ER (relay m) (K ck) (gcell ck.1 ck.2)) :=
    BI.bigSep_exists_pi Finset.univ (fun (ck : Dev nD × Cell) (κ : ℕ) => (cellInv ER (relay m) κ (gcell ck.1 ck.2) : sProp 𝕄))
  have hone (K) (c : Dev nD) : iprop(record m K ∗ rights c ∗ positions c) ⊢ (G' m c : sProp 𝕄) := by
    unfold G'
    iintro ⟨H1, H2⟩
    isplitl [H1]
    · iexists K; iexact H1
    iexact H2
  have hG (K) : (bigSep Finset.univ fun c : Dev nD => iprop(record m K ∗ rights c ∗ positions c) : sProp 𝕄) ⊢ bigSep Finset.univ (G' m) :=
    bigSep_mono fun c _ => hone K c
  have hd (K) := deal (R := record m K) fun c : Dev nD => iprop(rights c ∗ positions c)
  rw [bigSep_sep', bigSep_sep', bigSep_sep', hinv, hre, rights_around]
  iintro ⟨HI, ⟨HR, HP⟩, HT⟩
  ihave HK := hnames $$ HI
  icases HK with ⟨%K, HI⟩
  iapply (hG K)
  iapply (hd K)
  isplitl [HI HR]
  · unfold record
    isplitl [HI] <;> iassumption
  rw [bigSep_sep']
  isplitl [HT] <;> iassumption

theorem global_step : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => alloc_device m c).trans (bigSep_fupd _ _)).trans (BI.fupd_mono (regroup m))

end Cert.Relay

end
-- ==== Proof.Launch.lean ====
/-
# The whole run

Every device runs the kernel and ends with the gathered rows, its argument as it was and every counter at zero.
-/
module

public import proofs.«01_k».proof.Proof.Body
public import proofs.«01_k».proof.Proof.Ghost
public import Idealize.ShloMosaic.Lib.Quiescent
public import Idealize.ShloMosaic.Lib.Pipeline.CollectiveSegs
public import Idealize.ShloMosaic.Lib.Pipeline.Kit

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (d : Dev nD)

theorem launch_start (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (emp : sProp 𝕄)) := by
  have hr : (Pipeline.unscopedRestP Pipeline.Prefetch.none cfg0.spec c (fun b => m ((c : Thread nD τ).loc b)) : sProp 𝕄)
      = iprop(argPts m c Finset.univ fullShare ∗ outPts c Finset.univ fullShare (m ((c : Thread nD τ).loc main_v1))) := by
    rw [Pipeline.unscopedRestP_none, unscopedRest0_eq]; rfl
  have hc := credits_intro (F := F) c
  have hh := start_held m c (m ((c : Thread nD τ).loc main_v1))
  have hk := context_intro m
  rw [hr]
  unfold G' start
  iintro ⟨⟨Ha, Ho⟩, Hl, Hcr, -, ⟨%K, HK⟩, Hri, Hp⟩
  ihave Hcr := hc $$ Hcr
  ihave HC := (hk K) $$ [HK Hl]
  · isplitl [HK] <;> iassumption
  ihave Hh := hh $$ [Ha Ho Hcr Hri Hp]
  · isplitl [Hri Hp Hcr]
    · isplitl [Hri]; · iexact Hri
      isplitl [Hp] <;> iassumption
    isplitl [Ha] <;> iassumption
  imodintro
  isplitl
  · isplitl [HC]
    · iexists K; iexact HC
    iexact Hh
  iempintro

theorem launch_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What a device leaves: its counters at zero, its argument, the gathered rows. -/
def left (c : Dev nD) : sProp 𝕄 :=
  iprop(unscopedSems0 c ∗ argPts m c Finset.univ fullShare ∗ outPts c Finset.univ fullShare (gathered m c))

theorem launch_out (c : Dev nD) :
    (dats m 0 c).Φ (Fin.last cfg0.N) ⊢ iprop(left m c ∗ Pipeline.ownSems0 osem c ∗ Pipeline.scopedRest cfg0.spec c) := by
  have h := end_held m c
  rw [show (dats m 0 c).Φ (Fin.last cfg0.N) = finish m c from rfl, scopedRest0_eq, own_sems]
  unfold left finish
  rw [unscoped_bar]
  iintro H
  ihave H := h $$ H
  icases H with ⟨⟨Hb, Ho⟩, Ha, Hg⟩
  isplitl [Hb Ha Hg]
  · isplitl [Hb]; · iexact Hb
    isplitl [Ha] <;> iassumption
  isplitl [Ho]; · iexact Ho
  iempintro

/-- What the final memory is, one device at a time. -/
def Final (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = gathered m c

theorem left_read (c : Dev nD) (s' : Phys nD τ sig (Elt F)) :
    iprop(left m c ∗ (emp : sProp 𝕄) ∗ SI s') ⊢ |={Set.univ}=> iprop(⌜Final m c s'.mem⌝ ∗ SI s') := by
  unfold left
  have hu := Pipeline.unscopedSems0_read (X := (unscopedSems0 c : sProp 𝕄)) (c := c) fupd_intro s'
  iintro ⟨⟨Hu, Ha, Hg⟩, -, HSI⟩
  icombine HSI Ha gives %ha
  icombine HSI Hg gives %hg
  imod hu $$ [Hu HSI] with ⟨%hs, HSI⟩
  · isplitl [Hu] <;> iassumption
  imodintro
  isplitr
  · ipureintro
    exact ⟨hs, funext fun i => ha i (Finset.mem_univ i), funext fun i => hg i (Finset.mem_univ i)⟩
  iexact HSI

theorem launch_waits (c : Dev nD) : (levAts L lv : sProp 𝕄) ⊢ Pipeline.cellsWaits cfgs (dats m) () 0 c :=
  Pipeline.cellsWaits_intro cfgs (dats m) () 0 c fun w => (show Fin 0 from w).elim0

theorem launch_fund : (ownU u₀ : sProp 𝕄) ⊢ |={Set.univ}=> iprop(BI.own (EP (initOf (Pipeline.cells cfgs cellOf_inj) (Pipeline.launchToks cfgs cellOf_inj)))
    ∗ bigSep Finset.univ (G m)) := by
  have hf := fund_all m
  unfold u₀
  iintro Hu
  ihave H := (ownU_pair _ _) $$ Hu
  icases H with ⟨HP, HX⟩
  imod hf $$ HX with HG
  imodintro
  isplitl [HP] <;> iassumption

set_option maxRecDepth 8000 in
/-- From any memory with zero counters every execution ends, with each device's result the gathered rows, its argument
unchanged and every counter at zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = gathered m c)
      ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => (body m c).loose) (hne := fun w => (show Fin 0 from w).elim0) (harr := arr_whole0) (hstage := stage_whole0)
    (hshare := fun _ w => (show Fin 0 from w).elim0) (hdistinct := winFacts0.arr_inj)
    (O₀ := O₀) (howed₀ := fun _ => rfl) (howedN := fun _ => rfl)
    (L := L) (lv := lv) (hL := L_of_ne) (hwaits := launch_waits m)
    (G := G m) (G' := G' m) (u₀ := u₀) (hu₀ := launch_fund m) (hglob := global_step m)
    (hA := fun _ _ => rfl) (hpf := fun _ k => k.elim0)
    (X := start m) (Y := left m) (Z := fun _ => iprop(emp))
    (hX := launch_start m ρ) (hin := launch_in m) (hout := launch_out m)
    (QY := Final m) (hY := left_read m)
    (hQ := fun _ h hs => ⟨fun c => (h c).2.2.2, sem_eq_zero hs fun c => (h c).2.2.1⟩)

end Cert.Relay

end
-- ==== Proof.Value.lean ====
/-
# The gathered rows are the whole array

When every device's argument is its block of one array, by its y coordinate, the gathered rows are that array, on every
device.
-/
module

public import proofs.«01_k».proof.Proof.Schedule
public import Idealize.ShloMosaic.Lib.Layout

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ) (d : Dev nD)

/-- The numbers of the block that device `c` holds. -/
abbrev blockOf (c : Dev nD) : (b : Fin 2) → Fin (Layout.cutSize [2, 2, 2] (![[1], []] b)) := Layout.meshBlock [2, 2, 2] ![[1], []] c

/-- The block of an array that device `c` holds. -/
abbrev part {α : Type} (c : Dev nD) (V : S8192x1024.Idx → α) : S4096x1024.Idx → α :=
  Layout.blockN ⟨2, ![4096, 1024]⟩ ⟨2, ![8192, 1024]⟩ (blockOf c) V

/-- The block's number is the device's y coordinate. -/
theorem block_row (c : Dev nD) : (blockOf c 0).val = cy c := by revert c; decide +kernel

theorem part_at {α : Type} (c : Dev nD) (V : S8192x1024.Idx → α) (j : S4096x1024.Idx) (i : S8192x1024.Idx)
    (h0 : (i 0).val = cy c * 4096 + (j 0).val) (h1 : (i 1).val = (j 1).val) : part c V j = V i := by
  unfold part
  rw [Layout.blockN_apply]
  refine congrArg V (funext fun a => Fin.ext ?_)
  fin_cases a
  · show (blockOf c 0).val * 4096 + (j 0).val = (i 0).val
    rw [block_row, h0]
  · show 0 * 1024 + (j 1).val = (i 1).val
    rw [h1, Nat.zero_mul, Nat.zero_add]

theorem gathered_whole (V : S8192x1024.Idx → Elt F .f32) (h : ∀ c : Dev nD, argOf m c = part c V) : gathered m d = V := by
  refine funext fun (i : S8192x1024.Idx) => ?_
  have hi : (i 0).val < 8192 := (i 0).isLt
  unfold gathered
  simp only
  rw [h]
  refine part_at _ V _ i ?_ rfl
  have ho := origin_half d ⟨(i 0).val / 64, by omega⟩
  simp only at ho
  rw [ho]
  show (i 0).val = (i 0).val / 64 / 64 * 4096 + (i 0).val % 4096
  omega

end Cert.Relay

end
-- ==== Proof.Reference.lean ====
/-
# The reference's run

The reference returns its argument: its run is no operation at all.
-/
module

public import proofs.«01_k».proof.Proof.Gen.ReferenceIdeal
public import Idealize.ShloMosaic.Lib.StableHlo.Run
public import Idealize.ShloMosaic.Lib.Quiescent

@[expose] public section

noncomputable section

namespace Cert.Relay.Ref

open Cert.ReferenceIdeal Cert.ReferenceIdeal.Gen
open Idealize.ShloMosaic Idealize.SL.Sem
open Idealize.ShloMosaic.StableHlo

variable {F : FTy → Type} [FloatOps F]

theorem no_scoped_refs : (Finset.univ.filter fun b : Ref sig .tc => b.isScoped) = ∅ := by decide
theorem no_scoped_sems : (Finset.univ.filter fun s : SemLoc sig => s.isScoped .tc) = ∅ := by decide

/-- The reference ends with its argument as it was, which is its result, and every counter at zero. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems rfl r.2⟩)
    (run_seq no_scoped_refs no_scoped_sems defs main (fun _ => []) (fun _ => rfl) (fun _ => trivial) m ρ)

end Cert.Relay.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel and the ideal kernel are one text, so the run of the one is the run of the other. -/
theorem frame_kernel : Cert.quiescent_Kernel := fun m g _ =>
  (θ_run Cert.KernelIdeal.defs _ _).mono (fun _ h => ⟨fun c => (h.1 c).1, h.2⟩) (Cert.Relay.run_main (F := Bits) m g)

theorem frame_ideal : Cert.quiescent_KernelIdeal := fun m g _ =>
  (θ_run Cert.KernelIdeal.defs _ _).mono (fun _ h => ⟨fun c => (h.1 c).1, h.2⟩) (Cert.Relay.run_main (F := Ideal) m g)

theorem frame_reference : Cert.quiescent_ReferenceIdeal := fun m g _ => Cert.Relay.Ref.run_reference (F := Ideal) m g

/-- Every device's result is the reference's, the whole array. -/
theorem same_result : Cert.algebraic_KernelIdeal_ReferenceIdeal := fun m g m' g' _ h =>
  ⟨_, (θ_run Cert.KernelIdeal.defs _ _).mono (fun _ hr c => ⟨(hr.1 c).2.trans (Cert.Relay.gathered_whole m c _ h), (hr.1 c).1⟩)
      (Cert.Relay.run_main (F := Ideal) m g),
    (θ_run Cert.ReferenceIdeal.defs _ _).mono (fun _ hr => ⟨hr.1 0, hr.1 0⟩) (Cert.Relay.Ref.run_reference (F := Ideal) m' g')⟩

theorem claim : Cert.Claim := ⟨Cert.Kernel.Gen.facts, Cert.KernelIdeal.Gen.facts, Cert.ReferenceIdeal.Gen.facts,
  frame_kernel, frame_ideal, frame_reference, trivial, same_result⟩

end Cert.Proof

end
